-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_graphs_in_order [hPre_graphs_in_order : Cert.Pre_graphs_in_order.Facts] (m : (ℓ : Loc Cert.HeadIdeal.nD Cert.HeadIdeal.τ Cert.HeadIdeal.sig) → Buf (Elt Ideal) ℓ) : Prop :=
  ∀ c : Dev Cert.HeadIdeal.nD,
    (Cert.Pre_graphs_in_order.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10)) (m ((c.tc : Thread Cert.HeadIdeal.nD Cert.HeadIdeal.τ).loc Cert.HeadIdeal.main_arg11)) (m ((c.tc : Thread Cert.HeadIdeal.nD Cert.HeadIdeal.τ).loc Cert.HeadIdeal.main_arg12)) (m ((c.tc : Thread Cert.HeadIdeal.nD Cert.HeadIdeal.τ).loc Cert.HeadIdeal.main_arg13)) (m ((c.tc : Thread Cert.HeadIdeal.nD Cert.HeadIdeal.τ).loc Cert.HeadIdeal.main_arg14)) (m ((c.tc : Thread Cert.HeadIdeal.nD Cert.HeadIdeal.τ).loc Cert.HeadIdeal.main_arg15))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_graphs_in_order [hPre_graphs_in_order : Cert.Pre_graphs_in_order.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_graphs_in_order.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6)) (m ((c.tc : Thread Cert.HeadReferenceIdeal.nD Cert.HeadReferenceIdeal.τ).loc Cert.HeadReferenceIdeal.main_arg7)) (m ((c.tc : Thread Cert.HeadReferenceIdeal.nD Cert.HeadReferenceIdeal.τ).loc Cert.HeadReferenceIdeal.main_arg8)) (m ((c.tc : Thread Cert.HeadReferenceIdeal.nD Cert.HeadReferenceIdeal.τ).loc Cert.HeadReferenceIdeal.main_arg9)) (m ((c.tc : Thread Cert.HeadReferenceIdeal.nD Cert.HeadReferenceIdeal.τ).loc Cert.HeadReferenceIdeal.main_arg10)) (m ((c.tc : Thread Cert.HeadReferenceIdeal.nD Cert.HeadReferenceIdeal.τ).loc Cert.HeadReferenceIdeal.main_arg11)) (m ((c.tc : Thread Cert.HeadReferenceIdeal.nD Cert.HeadReferenceIdeal.τ).loc Cert.HeadReferenceIdeal.main_arg12)) (m ((c.tc : Thread Cert.HeadReferenceIdeal.nD Cert.HeadReferenceIdeal.τ).loc Cert.HeadReferenceIdeal.main_arg13)) (m ((c.tc : Thread Cert.HeadReferenceIdeal.nD Cert.HeadReferenceIdeal.τ).loc Cert.HeadReferenceIdeal.main_arg14)) (m ((c.tc : Thread Cert.HeadReferenceIdeal.nD Cert.HeadReferenceIdeal.τ).loc Cert.HeadReferenceIdeal.main_arg15))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_layers_finite [hPre_layers_finite : Cert.Pre_layers_finite.Facts] (m : (ℓ : Loc Cert.KernelIdeal.nD Cert.KernelIdeal.τ Cert.KernelIdeal.sig) → Buf (Elt Ideal) ℓ) : Prop :=
  ∀ c : Dev Cert.KernelIdeal.nD,
    (Cert.Pre_layers_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layers_finite [hPre_layers_finite : Cert.Pre_layers_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layers_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10)
      ∧ r.2.mem ((c.tc : Thread Cert.Head.nD Cert.Head.τ).loc Cert.Head.main_arg11) = m ((c.tc : Thread Cert.Head.nD Cert.Head.τ).loc Cert.Head.main_arg11)
      ∧ r.2.mem ((c.tc : Thread Cert.Head.nD Cert.Head.τ).loc Cert.Head.main_arg12) = m ((c.tc : Thread Cert.Head.nD Cert.Head.τ).loc Cert.Head.main_arg12)
      ∧ r.2.mem ((c.tc : Thread Cert.Head.nD Cert.Head.τ).loc Cert.Head.main_arg13) = m ((c.tc : Thread Cert.Head.nD Cert.Head.τ).loc Cert.Head.main_arg13)
      ∧ r.2.mem ((c.tc : Thread Cert.Head.nD Cert.Head.τ).loc Cert.Head.main_arg14) = m ((c.tc : Thread Cert.Head.nD Cert.Head.τ).loc Cert.Head.main_arg14)
      ∧ r.2.mem ((c.tc : Thread Cert.Head.nD Cert.Head.τ).loc Cert.Head.main_arg15) = m ((c.tc : Thread Cert.Head.nD Cert.Head.τ).loc Cert.Head.main_arg15))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
      ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15))
      ∧ r.2.sem = fun _ => 0)

def quiescent_HeadIdeal_pre_graphs_in_order [hHeadIdeal : Cert.HeadIdeal.Facts] [hPre_graphs_in_order : Cert.Pre_graphs_in_order.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_graphs_in_order m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
      ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10)
      ∧ r.2.mem ((c.tc : Thread Cert.HeadReferenceIdeal.nD Cert.HeadReferenceIdeal.τ).loc Cert.HeadReferenceIdeal.main_arg11) = m ((c.tc : Thread Cert.HeadReferenceIdeal.nD Cert.HeadReferenceIdeal.τ).loc Cert.HeadReferenceIdeal.main_arg11)
      ∧ r.2.mem ((c.tc : Thread Cert.HeadReferenceIdeal.nD Cert.HeadReferenceIdeal.τ).loc Cert.HeadReferenceIdeal.main_arg12) = m ((c.tc : Thread Cert.HeadReferenceIdeal.nD Cert.HeadReferenceIdeal.τ).loc Cert.HeadReferenceIdeal.main_arg12)
      ∧ r.2.mem ((c.tc : Thread Cert.HeadReferenceIdeal.nD Cert.HeadReferenceIdeal.τ).loc Cert.HeadReferenceIdeal.main_arg13) = m ((c.tc : Thread Cert.HeadReferenceIdeal.nD Cert.HeadReferenceIdeal.τ).loc Cert.HeadReferenceIdeal.main_arg13)
      ∧ r.2.mem ((c.tc : Thread Cert.HeadReferenceIdeal.nD Cert.HeadReferenceIdeal.τ).loc Cert.HeadReferenceIdeal.main_arg14) = m ((c.tc : Thread Cert.HeadReferenceIdeal.nD Cert.HeadReferenceIdeal.τ).loc Cert.HeadReferenceIdeal.main_arg14)
      ∧ r.2.mem ((c.tc : Thread Cert.HeadReferenceIdeal.nD Cert.HeadReferenceIdeal.τ).loc Cert.HeadReferenceIdeal.main_arg15) = m ((c.tc : Thread Cert.HeadReferenceIdeal.nD Cert.HeadReferenceIdeal.τ).loc Cert.HeadReferenceIdeal.main_arg15))
      ∧ r.2.sem = fun _ => 0)

def quiescent_HeadReferenceIdeal_pre_graphs_in_order [hHeadReferenceIdeal : Cert.HeadReferenceIdeal.Facts] [hPre_graphs_in_order : Cert.Pre_graphs_in_order.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_graphs_in_order m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10)
      ∧ r.2.mem ((c.tc : Thread Cert.HeadReferenceIdeal.nD Cert.HeadReferenceIdeal.τ).loc Cert.HeadReferenceIdeal.main_arg11) = m ((c.tc : Thread Cert.HeadReferenceIdeal.nD Cert.HeadReferenceIdeal.τ).loc Cert.HeadReferenceIdeal.main_arg11)
      ∧ r.2.mem ((c.tc : Thread Cert.HeadReferenceIdeal.nD Cert.HeadReferenceIdeal.τ).loc Cert.HeadReferenceIdeal.main_arg12) = m ((c.tc : Thread Cert.HeadReferenceIdeal.nD Cert.HeadReferenceIdeal.τ).loc Cert.HeadReferenceIdeal.main_arg12)
      ∧ r.2.mem ((c.tc : Thread Cert.HeadReferenceIdeal.nD Cert.HeadReferenceIdeal.τ).loc Cert.HeadReferenceIdeal.main_arg13) = m ((c.tc : Thread Cert.HeadReferenceIdeal.nD Cert.HeadReferenceIdeal.τ).loc Cert.HeadReferenceIdeal.main_arg13)
      ∧ r.2.mem ((c.tc : Thread Cert.HeadReferenceIdeal.nD Cert.HeadReferenceIdeal.τ).loc Cert.HeadReferenceIdeal.main_arg14) = m ((c.tc : Thread Cert.HeadReferenceIdeal.nD Cert.HeadReferenceIdeal.τ).loc Cert.HeadReferenceIdeal.main_arg14)
      ∧ r.2.mem ((c.tc : Thread Cert.HeadReferenceIdeal.nD Cert.HeadReferenceIdeal.τ).loc Cert.HeadReferenceIdeal.main_arg15) = m ((c.tc : Thread Cert.HeadReferenceIdeal.nD Cert.HeadReferenceIdeal.τ).loc Cert.HeadReferenceIdeal.main_arg15))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_layers_finite [hKernelIdeal : Cert.KernelIdeal.Facts] [hPre_layers_finite : Cert.Pre_layers_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layers_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_layers_finite [hReferenceIdeal : Cert.ReferenceIdeal.Facts] [hPre_layers_finite : Cert.Pre_layers_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layers_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Head_HeadIdeal : Prop :=
  True

def algebraic_HeadIdeal_HeadReferenceIdeal_pre_graphs_in_order [hHeadIdeal : Cert.HeadIdeal.Facts] [hHeadReferenceIdeal : Cert.HeadReferenceIdeal.Facts] [hPre_graphs_in_order : Cert.Pre_graphs_in_order.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal_graphs_in_order m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)
      ∧ m' ((c.tc : Thread Cert.HeadReferenceIdeal.nD Cert.HeadReferenceIdeal.τ).loc Cert.HeadReferenceIdeal.main_arg7) = m ((c.tc : Thread Cert.HeadIdeal.nD Cert.HeadIdeal.τ).loc Cert.HeadIdeal.main_arg7)
      ∧ m' ((c.tc : Thread Cert.HeadReferenceIdeal.nD Cert.HeadReferenceIdeal.τ).loc Cert.HeadReferenceIdeal.main_arg8) = m ((c.tc : Thread Cert.HeadIdeal.nD Cert.HeadIdeal.τ).loc Cert.HeadIdeal.main_arg8)
      ∧ m' ((c.tc : Thread Cert.HeadReferenceIdeal.nD Cert.HeadReferenceIdeal.τ).loc Cert.HeadReferenceIdeal.main_arg9) = m ((c.tc : Thread Cert.HeadIdeal.nD Cert.HeadIdeal.τ).loc Cert.HeadIdeal.main_arg9)
      ∧ m' ((c.tc : Thread Cert.HeadReferenceIdeal.nD Cert.HeadReferenceIdeal.τ).loc Cert.HeadReferenceIdeal.main_arg10) = m ((c.tc : Thread Cert.HeadIdeal.nD Cert.HeadIdeal.τ).loc Cert.HeadIdeal.main_arg10)
      ∧ m' ((c.tc : Thread Cert.HeadReferenceIdeal.nD Cert.HeadReferenceIdeal.τ).loc Cert.HeadReferenceIdeal.main_arg11) = m ((c.tc : Thread Cert.HeadIdeal.nD Cert.HeadIdeal.τ).loc Cert.HeadIdeal.main_arg11)
      ∧ m' ((c.tc : Thread Cert.HeadReferenceIdeal.nD Cert.HeadReferenceIdeal.τ).loc Cert.HeadReferenceIdeal.main_arg12) = m ((c.tc : Thread Cert.HeadIdeal.nD Cert.HeadIdeal.τ).loc Cert.HeadIdeal.main_arg12)
      ∧ m' ((c.tc : Thread Cert.HeadReferenceIdeal.nD Cert.HeadReferenceIdeal.τ).loc Cert.HeadReferenceIdeal.main_arg13) = m ((c.tc : Thread Cert.HeadIdeal.nD Cert.HeadIdeal.τ).loc Cert.HeadIdeal.main_arg13)
      ∧ m' ((c.tc : Thread Cert.HeadReferenceIdeal.nD Cert.HeadReferenceIdeal.τ).loc Cert.HeadReferenceIdeal.main_arg14) = m ((c.tc : Thread Cert.HeadIdeal.nD Cert.HeadIdeal.τ).loc Cert.HeadIdeal.main_arg14)
      ∧ m' ((c.tc : Thread Cert.HeadReferenceIdeal.nD Cert.HeadReferenceIdeal.τ).loc Cert.HeadReferenceIdeal.main_arg15) = m ((c.tc : Thread Cert.HeadIdeal.nD Cert.HeadIdeal.τ).loc Cert.HeadIdeal.main_arg15)) →
    ∃ (v0 : (c : Dev Cert.HeadIdeal.nD) → Buf (Elt Ideal) ((c.tc : Thread Cert.HeadIdeal.nD Cert.HeadIdeal.τ).loc Cert.HeadIdeal.main_v8)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v8) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
          ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
          ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
          ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
          ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
          ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v48) = v0 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6)
          ∧ r.2.mem ((c.tc : Thread Cert.HeadReferenceIdeal.nD Cert.HeadReferenceIdeal.τ).loc Cert.HeadReferenceIdeal.main_arg7) = m' ((c.tc : Thread Cert.HeadReferenceIdeal.nD Cert.HeadReferenceIdeal.τ).loc Cert.HeadReferenceIdeal.main_arg7)
          ∧ r.2.mem ((c.tc : Thread Cert.HeadReferenceIdeal.nD Cert.HeadReferenceIdeal.τ).loc Cert.HeadReferenceIdeal.main_arg8) = m' ((c.tc : Thread Cert.HeadReferenceIdeal.nD Cert.HeadReferenceIdeal.τ).loc Cert.HeadReferenceIdeal.main_arg8)
          ∧ r.2.mem ((c.tc : Thread Cert.HeadReferenceIdeal.nD Cert.HeadReferenceIdeal.τ).loc Cert.HeadReferenceIdeal.main_arg9) = m' ((c.tc : Thread Cert.HeadReferenceIdeal.nD Cert.HeadReferenceIdeal.τ).loc Cert.HeadReferenceIdeal.main_arg9)
          ∧ r.2.mem ((c.tc : Thread Cert.HeadReferenceIdeal.nD Cert.HeadReferenceIdeal.τ).loc Cert.HeadReferenceIdeal.main_arg10) = m' ((c.tc : Thread Cert.HeadReferenceIdeal.nD Cert.HeadReferenceIdeal.τ).loc Cert.HeadReferenceIdeal.main_arg10)
          ∧ r.2.mem ((c.tc : Thread Cert.HeadReferenceIdeal.nD Cert.HeadReferenceIdeal.τ).loc Cert.HeadReferenceIdeal.main_arg11) = m' ((c.tc : Thread Cert.HeadReferenceIdeal.nD Cert.HeadReferenceIdeal.τ).loc Cert.HeadReferenceIdeal.main_arg11)
          ∧ r.2.mem ((c.tc : Thread Cert.HeadReferenceIdeal.nD Cert.HeadReferenceIdeal.τ).loc Cert.HeadReferenceIdeal.main_arg12) = m' ((c.tc : Thread Cert.HeadReferenceIdeal.nD Cert.HeadReferenceIdeal.τ).loc Cert.HeadReferenceIdeal.main_arg12)
          ∧ r.2.mem ((c.tc : Thread Cert.HeadReferenceIdeal.nD Cert.HeadReferenceIdeal.τ).loc Cert.HeadReferenceIdeal.main_arg13) = m' ((c.tc : Thread Cert.HeadReferenceIdeal.nD Cert.HeadReferenceIdeal.τ).loc Cert.HeadReferenceIdeal.main_arg13)
          ∧ r.2.mem ((c.tc : Thread Cert.HeadReferenceIdeal.nD Cert.HeadReferenceIdeal.τ).loc Cert.HeadReferenceIdeal.main_arg14) = m' ((c.tc : Thread Cert.HeadReferenceIdeal.nD Cert.HeadReferenceIdeal.τ).loc Cert.HeadReferenceIdeal.main_arg14)
          ∧ r.2.mem ((c.tc : Thread Cert.HeadReferenceIdeal.nD Cert.HeadReferenceIdeal.τ).loc Cert.HeadReferenceIdeal.main_arg15) = m' ((c.tc : Thread Cert.HeadReferenceIdeal.nD Cert.HeadReferenceIdeal.τ).loc Cert.HeadReferenceIdeal.main_arg15))

def preserves_Kernel_KernelIdeal : Prop :=
  True

def algebraic_KernelIdeal_ReferenceIdeal_pre_layers_finite [hKernelIdeal : Cert.KernelIdeal.Facts] [hReferenceIdeal : Cert.ReferenceIdeal.Facts] [hPre_layers_finite : Cert.Pre_layers_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layers_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hHead : Cert.Head.Facts) (hHeadIdeal : Cert.HeadIdeal.Facts) (hHeadReferenceIdeal : Cert.HeadReferenceIdeal.Facts) (hKernel : Cert.Kernel.Facts) (hKernelIdeal : Cert.KernelIdeal.Facts) (hReferenceIdeal : Cert.ReferenceIdeal.Facts) (hPre_graphs_in_order : Cert.Pre_graphs_in_order.Facts) (hPre_layers_finite : Cert.Pre_layers_finite.Facts),
    quiescent_Head (hHead := hHead)
    ∧ quiescent_HeadIdeal (hHeadIdeal := hHeadIdeal)
    ∧ quiescent_HeadIdeal_pre_graphs_in_order (hHeadIdeal := hHeadIdeal) (hPre_graphs_in_order := hPre_graphs_in_order)
    ∧ quiescent_HeadReferenceIdeal (hHeadReferenceIdeal := hHeadReferenceIdeal)
    ∧ quiescent_HeadReferenceIdeal_pre_graphs_in_order (hHeadReferenceIdeal := hHeadReferenceIdeal) (hPre_graphs_in_order := hPre_graphs_in_order)
    ∧ quiescent_Kernel (hKernel := hKernel)
    ∧ quiescent_KernelIdeal (hKernelIdeal := hKernelIdeal)
    ∧ quiescent_KernelIdeal_pre_layers_finite (hKernelIdeal := hKernelIdeal) (hPre_layers_finite := hPre_layers_finite)
    ∧ quiescent_ReferenceIdeal (hReferenceIdeal := hReferenceIdeal)
    ∧ quiescent_ReferenceIdeal_pre_layers_finite (hReferenceIdeal := hReferenceIdeal) (hPre_layers_finite := hPre_layers_finite)
    ∧ preserves_Head_HeadIdeal
    ∧ algebraic_HeadIdeal_HeadReferenceIdeal_pre_graphs_in_order (hHeadIdeal := hHeadIdeal) (hHeadReferenceIdeal := hHeadReferenceIdeal) (hPre_graphs_in_order := hPre_graphs_in_order)
    ∧ preserves_Kernel_KernelIdeal
    ∧ algebraic_KernelIdeal_ReferenceIdeal_pre_layers_finite (hKernelIdeal := hKernelIdeal) (hReferenceIdeal := hReferenceIdeal) (hPre_layers_finite := hPre_layers_finite)
-- ==== Pre_graphs_in_order.lean ====
abbrev S16384x128 : Shape := ⟨2, ![16384, 128]⟩
abbrev S16384 : Shape := ⟨1, ![16384]⟩
abbrev S512x1024 : Shape := ⟨2, ![512, 1024]⟩
abbrev S512x10000 : Shape := ⟨2, ![512, 10000]⟩
abbrev S128x1 : Shape := ⟨2, ![128, 1]⟩
abbrev S1 : Shape := ⟨1, ![1]⟩
abbrev S1024x256 : Shape := ⟨2, ![1024, 256]⟩
abbrev S256 : Shape := ⟨1, ![256]⟩
abbrev S10000x256 : Shape := ⟨2, ![10000, 256]⟩
abbrev S768x1024 : Shape := ⟨2, ![768, 1024]⟩
abbrev S1024 : Shape := ⟨1, ![1024]⟩
abbrev S256x1 : Shape := ⟨2, ![256, 1]⟩
abbrev S512x32 : Shape := ⟨2, ![512, 32]⟩
abbrev S_ : Shape := ⟨0, ![]⟩

class Facts : Prop where
  shapeCasts_S16384_S512x32 : S16384.ShapeCasts S512x32
  reducesTo_S512x32_S_d0_1 : S512x32.ReducesTo [0, 1] S_
  h_S_ : 0 < S_.numel

variable [Facts]

def fn {F : FTy → Type} [FloatOps F] (main_arg0 : FVec F S16384x128 .f32) (main_arg1 : IVec S16384 32) (main_arg2 : FVec F S512x1024 .f32) (main_arg3 : FVec F S512x10000 .f32) (main_arg4 : FVec F S128x1 .f32) (main_arg5 : FVec F S1 .f32) (main_arg6 : FVec F S1024x256 .f32) (main_arg7 : FVec F S256 .f32) (main_arg8 : FVec F S10000x256 .f32) (main_arg9 : FVec F S256 .f32) (main_arg10 : FVec F S768x1024 .f32) (main_arg11 : FVec F S1024 .f32) (main_arg12 : FVec F S1024x256 .f32) (main_arg13 : FVec F S256 .f32) (main_arg14 : FVec F S256x1 .f32) (main_arg15 : FVec F S1 .f32) : IVec S_ 1 :=
  let main_v0 : IVec S512x32 32 := shapeCast S512x32 main_arg1 shapeCasts_S16384_S512x32
  let main_v1 : IVec S512x32 32 := iotaInDim S512x32 32 0
  let main_v2 : IVec S512x32 1 := cmpi .eq main_v0 main_v1
  let main_c : IVec S_ 1 := constantI S_ 1 1#1
  let main_v3 : IVec S_ 1 := (fun x v => Host.reduce IntOp.andi x v reducesTo_S512x32_S_d0_1 h_S_) main_v2 main_c
  main_v3
-- ==== Pre_layers_finite.lean ====
abbrev S16384x74 : Shape := ⟨2, ![16384, 74]⟩
abbrev S2x49152 : Shape := ⟨2, ![2, 49152]⟩
abbrev S16384 : Shape := ⟨1, ![16384]⟩
abbrev S512x1024 : Shape := ⟨2, ![512, 1024]⟩
abbrev S512x10000 : Shape := ⟨2, ![512, 10000]⟩
abbrev S74x740 : Shape := ⟨2, ![74, 740]⟩
abbrev S10x74 : Shape := ⟨2, ![10, 74]⟩
abbrev S740 : Shape := ⟨1, ![740]⟩
abbrev S740x128 : Shape := ⟨2, ![740, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1024x256 : Shape := ⟨2, ![1024, 256]⟩
abbrev S256 : Shape := ⟨1, ![256]⟩
abbrev S10000x256 : Shape := ⟨2, ![10000, 256]⟩
abbrev S768x1024 : Shape := ⟨2, ![768, 1024]⟩
abbrev S1024 : Shape := ⟨1, ![1024]⟩
abbrev S256x1 : Shape := ⟨2, ![256, 1]⟩
abbrev S512x32 : Shape := ⟨2, ![512, 32]⟩
abbrev S_ : Shape := ⟨0, ![]⟩

class Facts : Prop where
  shapeCasts_S16384_S512x32 : S16384.ShapeCasts S512x32
  reducesTo_S512x32_S_d0_1 : S512x32.ReducesTo [0, 1] S_
  h_S_ : 0 < S_.numel
  bcast_S_S16384x74 : S_.BroadcastsInDim S16384x74 (![] : Fin 0 → Fin S16384x74.rank)
  reducesTo_S16384x74_S_d0_1 : S16384x74.ReducesTo [0, 1] S_
  bcast_S_S74x740 : S_.BroadcastsInDim S74x740 (![] : Fin 0 → Fin S74x740.rank)
  reducesTo_S74x740_S_d0_1 : S74x740.ReducesTo [0, 1] S_
  bcast_S_S10x74 : S_.BroadcastsInDim S10x74 (![] : Fin 0 → Fin S10x74.rank)
  reducesTo_S10x74_S_d0_1 : S10x74.ReducesTo [0, 1] S_
  bcast_S_S740 : S_.BroadcastsInDim S740 (![] : Fin 0 → Fin S740.rank)
  reducesTo_S740_S_d0 : S740.ReducesTo [0] S_
  bcast_S_S740x128 : S_.BroadcastsInDim S740x128 (![] : Fin 0 → Fin S740x128.rank)
  reducesTo_S740x128_S_d0_1 : S740x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg11 : FVec F S1x128 .f32) (main_v33 : IVec S_ 1) (main_v34 : FVec F S1x128 .f32) : IVec S_ 1 :=
  let main_cst_11 : FVec F S_ .f32 := constant S_ .f32 0x7F800000#32
  let main_v35 : FVec F S1x128 .f32 := broadcastInDim S1x128 ![] bcast_S_S1x128 main_cst_11
  let main_v36 : IVec S1x128 1 := cmpf .olt main_v34 main_v35
  let main_c_12 : IVec S_ 1 := constantI S_ 1 1#1
  let main_v37 : IVec S_ 1 := (fun x v => Host.reduce IntOp.andi x v reducesTo_S1x128_S_d0_1 h_S_) main_v36 main_c_12
  let main_v38 : IVec S_ 1 := andi main_v33 main_v37
  let main_v39 : FVec F S1x128 .f32 := Host.absf main_arg11
  let main_cst_13 : FVec F S_ .f32 := constant S_ .f32 0x7F800000#32
  let main_v40 : FVec F S1x128 .f32 := broadcastInDim S1x128 ![] bcast_S_S1x128 main_cst_13
  let main_v41 : IVec S1x128 1 := cmpf .olt main_v39 main_v40
  let main_c_14 : IVec S_ 1 := constantI S_ 1 1#1
  let main_v42 : IVec S_ 1 := (fun x v => Host.reduce IntOp.andi x v reducesTo_S1x128_S_d0_1 h_S_) main_v41 main_c_14
  let main_v43 : IVec S_ 1 := andi main_v38 main_v42
  main_v43

def fn_part1 {F : FTy → Type} [FloatOps F] (main_arg7 : FVec F S10x74 .f32) (main_arg8 : FVec F S740 .f32) (main_arg9 : FVec F S740x128 .f32) (main_arg10 : FVec F S1x128 .f32) (main_arg11 : FVec F S1x128 .f32) (main_v13 : IVec S_ 1) (main_v16 : IVec S10x74 1) (main_c_4 : IVec S_ 1) : IVec S_ 1 :=
  let main_v17 : IVec S_ 1 := (fun x v => Host.reduce IntOp.andi x v reducesTo_S10x74_S_d0_1 h_S_) main_v16 main_c_4
  let main_v18 : IVec S_ 1 := andi main_v13 main_v17
  let main_v19 : FVec F S10x74 .f32 := Host.absf main_arg7
  let main_cst_5 : FVec F S_ .f32 := constant S_ .f32 0x7F800000#32
  let main_v20 : FVec F S10x74 .f32 := broadcastInDim S10x74 ![] bcast_S_S10x74 main_cst_5
  let main_v21 : IVec S10x74 1 := cmpf .olt main_v19 main_v20
  let main_c_6 : IVec S_ 1 := constantI S_ 1 1#1
  let main_v22 : IVec S_ 1 := (fun x v => Host.reduce IntOp.andi x v reducesTo_S10x74_S_d0_1 h_S_) main_v21 main_c_6
  let main_v23 : IVec S_ 1 := andi main_v18 main_v22
  let main_v24 : FVec F S740 .f32 := Host.absf main_arg8
  let main_cst_7 : FVec F S_ .f32 := constant S_ .f32 0x7F800000#32
  let main_v25 : FVec F S740 .f32 := broadcastInDim S740 ![] bcast_S_S740 main_cst_7
  let main_v26 : IVec S740 1 := cmpf .olt main_v24 main_v25
  let main_c_8 : IVec S_ 1 := constantI S_ 1 1#1
  let main_v27 : IVec S_ 1 := (fun x v => Host.reduce IntOp.andi x v reducesTo_S740_S_d0 h_S_) main_v26 main_c_8
  let main_v28 : IVec S_ 1 := andi main_v23 main_v27
  let main_v29 : FVec F S740x128 .f32 := Host.absf main_arg9
  let main_cst_9 : FVec F S_ .f32 := constant S_ .f32 0x7F800000#32
  let main_v30 : FVec F S740x128 .f32 := broadcastInDim S740x128 ![] bcast_S_S740x128 main_cst_9
  let main_v31 : IVec S740x128 1 := cmpf .olt main_v29 main_v30
  let main_c_10 : IVec S_ 1 := constantI S_ 1 1#1
  let main_v32 : IVec S_ 1 := (fun x v => Host.reduce IntOp.andi x v reducesTo_S740x128_S_d0_1 h_S_) main_v31 main_c_10
  let main_v33 : IVec S_ 1 := andi main_v28 main_v32
  let main_v34 : FVec F S1x128 .f32 := Host.absf main_arg10
  fn_part2 (F := F) main_arg11 main_v33 main_v34

def fn {F : FTy → Type} [FloatOps F] (main_arg0 : FVec F S16384x74 .f32) (main_arg1 : IVec S2x49152 32) (main_arg2 : IVec S16384 32) (main_arg3 : FVec F S512x1024 .f32) (main_arg4 : FVec F S512x10000 .f32) (main_arg5 : FVec F S74x740 .f32) (main_arg6 : FVec F S10x74 .f32) (main_arg7 : FVec F S10x74 .f32) (main_arg8 : FVec F S740 .f32) (main_arg9 : FVec F S740x128 .f32) (main_arg10 : FVec F S1x128 .f32) (main_arg11 : FVec F S1x128 .f32) (main_arg12 : FVec F S128 .f32) (main_arg13 : FVec F S128x1 .f32) (main_arg14 : FVec F S1 .f32) (main_arg15 : FVec F S1024x256 .f32) (main_arg16 : FVec F S256 .f32) (main_arg17 : FVec F S10000x256 .f32) (main_arg18 : FVec F S256 .f32) (main_arg19 : FVec F S768x1024 .f32) (main_arg20 : FVec F S1024 .f32) (main_arg21 : FVec F S1024x256 .f32) (main_arg22 : FVec F S256 .f32) (main_arg23 : FVec F S256x1 .f32) (main_arg24 : FVec F S1 .f32) : IVec S_ 1 :=
  let main_v0 : IVec S512x32 32 := shapeCast S512x32 main_arg2 shapeCasts_S16384_S512x32
  let main_v1 : IVec S512x32 32 := iotaInDim S512x32 32 0
  let main_v2 : IVec S512x32 1 := cmpi .eq main_v0 main_v1
  let main_c : IVec S_ 1 := constantI S_ 1 1#1
  let main_v3 : IVec S_ 1 := (fun x v => Host.reduce IntOp.andi x v reducesTo_S512x32_S_d0_1 h_S_) main_v2 main_c
  let main_v4 : FVec F S16384x74 .f32 := Host.absf main_arg0
  let main_cst : FVec F S_ .f32 := constant S_ .f32 0x7F800000#32
  let main_v5 : FVec F S16384x74 .f32 := broadcastInDim S16384x74 ![] bcast_S_S16384x74 main_cst
  let main_v6 : IVec S16384x74 1 := cmpf .olt main_v4 main_v5
  let main_c_0 : IVec S_ 1 := constantI S_ 1 1#1
  let main_v7 : IVec S_ 1 := (fun x v => Host.reduce IntOp.andi x v reducesTo_S16384x74_S_d0_1 h_S_) main_v6 main_c_0
  let main_v8 : IVec S_ 1 := andi main_v3 main_v7
  let main_v9 : FVec F S74x740 .f32 := Host.absf main_arg5
  let main_cst_1 : FVec F S_ .f32 := constant S_ .f32 0x7F800000#32
  let main_v10 : FVec F S74x740 .f32 := broadcastInDim S74x740 ![] bcast_S_S74x740 main_cst_1
  let main_v11 : IVec S74x740 1 := cmpf .olt main_v9 main_v10
  let main_c_2 : IVec S_ 1 := constantI S_ 1 1#1
  let main_v12 : IVec S_ 1 := (fun x v => Host.reduce IntOp.andi x v reducesTo_S74x740_S_d0_1 h_S_) main_v11 main_c_2
  let main_v13 : IVec S_ 1 := andi main_v8 main_v12
  let main_v14 : FVec F S10x74 .f32 := Host.absf main_arg6
  let main_cst_3 : FVec F S_ .f32 := constant S_ .f32 0x7F800000#32
  let main_v15 : FVec F S10x74 .f32 := broadcastInDim S10x74 ![] bcast_S_S10x74 main_cst_3
  let main_v16 : IVec S10x74 1 := cmpf .olt main_v14 main_v15
  let main_c_4 : IVec S_ 1 := constantI S_ 1 1#1
  fn_part1 (F := F) main_arg7 main_arg8 main_arg9 main_arg10 main_arg11 main_v13 main_v16 main_c_4
-- ==== Head.lean ====
abbrev S16384x128 : Shape := ⟨2, ![16384, 128]⟩
abbrev S16384 : Shape := ⟨1, ![16384]⟩
abbrev S512x1024 : Shape := ⟨2, ![512, 1024]⟩
abbrev S512x10000 : Shape := ⟨2, ![512, 10000]⟩
abbrev S128x1 : Shape := ⟨2, ![128, 1]⟩
abbrev S1 : Shape := ⟨1, ![1]⟩
abbrev S1024x256 : Shape := ⟨2, ![1024, 256]⟩
abbrev S256 : Shape := ⟨1, ![256]⟩
abbrev S10000x256 : Shape := ⟨2, ![10000, 256]⟩
abbrev S768x1024 : Shape := ⟨2, ![768, 1024]⟩
abbrev S1024 : Shape := ⟨1, ![1024]⟩
abbrev S256x1 : Shape := ⟨2, ![256, 1]⟩
abbrev S512x32x128 : Shape := ⟨3, ![512, 32, 128]⟩
abbrev S1x1 : Shape := ⟨2, ![1, 1]⟩
abbrev S1x256 : Shape := ⟨2, ![1, 256]⟩
abbrev S1x1024 : Shape := ⟨2, ![1, 1024]⟩
abbrev S512x1 : Shape := ⟨2, ![512, 1]⟩
abbrev S16384x1 : Shape := ⟨2, ![16384, 1]⟩
abbrev S512x32x1 : Shape := ⟨3, ![512, 32, 1]⟩
abbrev S512x128 : Shape := ⟨2, ![512, 128]⟩
abbrev S512x256 : Shape := ⟨2, ![512, 256]⟩
abbrev S512x768 : Shape := ⟨2, ![512, 768]⟩
abbrev S512 : Shape := ⟨1, ![512]⟩

abbrev nBuf : Space → Nat
  | .hbm => 25
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S512x1024, .f32⟩
  | .hbm, ⟨3, _⟩ => ⟨S512x10000, .f32⟩
  | .hbm, ⟨4, _⟩ => ⟨S128x1, .f32⟩
  | .hbm, ⟨5, _⟩ => ⟨S1, .f32⟩
  | .hbm, ⟨6, _⟩ => ⟨S1024x256, .f32⟩
  | .hbm, ⟨7, _⟩ => ⟨S256, .f32⟩
  | .hbm, ⟨8, _⟩ => ⟨S10000x256, .f32⟩
  | .hbm, ⟨9, _⟩ => ⟨S256, .f32⟩
  | .hbm, ⟨10, _⟩ => ⟨S768x1024, .f32⟩
  | .hbm, ⟨11, _⟩ => ⟨S1024, .f32⟩
  | .hbm, ⟨12, _⟩ => ⟨S1024x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S512x32x128, .f32⟩
  | .hbm, ⟨17, _⟩ => ⟨S1x1, .f32⟩
  | .hbm, ⟨18, _⟩ => ⟨S1x256, .f32⟩
  | .hbm, ⟨19, _⟩ => ⟨S1x256, .f32⟩
  | .hbm, ⟨20, _⟩ => ⟨S1x1024, .f32⟩
  | .hbm, ⟨21, _⟩ => ⟨S1x256, .f32⟩
  | .hbm, ⟨22, _⟩ => ⟨S1x1, .f32⟩
  | .hbm, ⟨23, _⟩ => ⟨S512x1, .f32⟩
  | .hbm, ⟨24, _⟩ => ⟨S512, .f32⟩
  | .local _ .vmem, ⟨0, _⟩ => ⟨S512x32x128, .f32⟩
  | .local _ .vmem, ⟨1, _⟩ => ⟨S512x1024, .f32⟩
  | .local _ .vmem, ⟨2, _⟩ => ⟨S512x10000, .f32⟩
  | .local _ .vmem, ⟨3, _⟩ => ⟨S128x1, .f32⟩
  | .local _ .vmem, ⟨4, _⟩ => ⟨S1x1, .f32⟩
  | .local _ .vmem, ⟨5, _⟩ => ⟨S1024x256, .f32⟩
  | .local _ .vmem, ⟨6, _⟩ => ⟨S1x256, .f32⟩
  | .local _ .vmem, ⟨7, _⟩ => ⟨S10000x256, .f32⟩
  | .local _ .vmem, ⟨8, _⟩ => ⟨S1x256, .f32⟩
  | .local _ .vmem, ⟨9, _⟩ => ⟨S768x1024, .f32⟩
  | .local _ .vmem, ⟨10, _⟩ => ⟨S1x1024, .f32⟩
  | .local _ .vmem, ⟨11, _⟩ => ⟨S1024x256, .f32⟩
  | .local _ .vmem, ⟨12, _⟩ => ⟨S1x256, .f32⟩
  | .local _ .vmem, ⟨13, _⟩ => ⟨S256x1, .f32⟩
  | .local _ .vmem, ⟨14, _⟩ => ⟨S1x1, .f32⟩
  | .local _ .vmem, ⟨15, _⟩ => ⟨S512x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S512x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10000x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== HeadReferenceIdeal.lean ====
abbrev S16384x128 : Shape := ⟨2, ![16384, 128]⟩
abbrev S16384 : Shape := ⟨1, ![16384]⟩
abbrev S512x1024 : Shape := ⟨2, ![512, 1024]⟩
abbrev S512x10000 : Shape := ⟨2, ![512, 10000]⟩
abbrev S128x1 : Shape := ⟨2, ![128, 1]⟩
abbrev S1 : Shape := ⟨1, ![1]⟩
abbrev S1024x256 : Shape := ⟨2, ![1024, 256]⟩
abbrev S256 : Shape := ⟨1, ![256]⟩
abbrev S10000x256 : Shape := ⟨2, ![10000, 256]⟩
abbrev S768x1024 : Shape := ⟨2, ![768, 1024]⟩
abbrev S1024 : Shape := ⟨1, ![1024]⟩
abbrev S256x1 : Shape := ⟨2, ![256, 1]⟩
abbrev S16384x1 : Shape := ⟨2, ![16384, 1]⟩
abbrev S1x1 : Shape := ⟨2, ![1, 1]⟩
abbrev S_ : Shape := ⟨0, ![]⟩
abbrev S512x128 : Shape := ⟨2, ![512, 128]⟩
abbrev S1x16384x1 : Shape := ⟨3, ![1, 16384, 1]⟩
abbrev S512 : Shape := ⟨1, ![512]⟩
abbrev S512x1x1 : Shape := ⟨3, ![512, 1, 1]⟩
abbrev S512x16384x1 : Shape := ⟨3, ![512, 16384, 1]⟩
abbrev S1x16384x128 : Shape := ⟨3, ![1, 16384, 128]⟩
abbrev S512x16384x128 : Shape := ⟨3, ![512, 16384, 128]⟩
abbrev S512x256 : Shape := ⟨2, ![512, 256]⟩
abbrev S1x256 : Shape := ⟨2, ![1, 256]⟩
abbrev S512x768 : Shape := ⟨2, ![512, 768]⟩
abbrev S1x1024 : Shape := ⟨2, ![1, 1024]⟩
abbrev S512x1 : Shape := ⟨2, ![512, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S512x1024, .f32⟩
  | .hbm, ⟨3, _⟩ => ⟨S512x10000, .f32⟩
  | .hbm, ⟨4, _⟩ => ⟨S128x1, .f32⟩
  | .hbm, ⟨5, _⟩ => ⟨S1, .f32⟩
  | .hbm, ⟨6, _⟩ => ⟨S1024x256, .f32⟩
  | .hbm, ⟨7, _⟩ => ⟨S256, .f32⟩
  | .hbm, ⟨8, _⟩ => ⟨S10000x256, .f32⟩
  | .hbm, ⟨9, _⟩ => ⟨S256, .f32⟩
  | .hbm, ⟨10, _⟩ => ⟨S768x1024, .f32⟩
  | .hbm, ⟨11, _⟩ => ⟨S1024, .f32⟩
  | .hbm, ⟨12, _⟩ => ⟨S1024x256, .f32⟩
  | .hbm, ⟨13, _⟩ => ⟨S256, .f32⟩
  | .hbm, ⟨14, _⟩ => ⟨S256x1, .f32⟩
  | .hbm, ⟨15, _⟩ => ⟨S1, .f32⟩
  | .hbm, ⟨16, _⟩ => ⟨S16384x1, .f32⟩
  | .hbm, ⟨17, _⟩ => ⟨S1x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S512x128, .f32⟩
  | .hbm, ⟨32, _⟩ => ⟨S16384x1, .i32⟩
  | .hbm, ⟨33, _⟩ => ⟨S512x128, .f32⟩
  | .hbm, ⟨34, _⟩ => ⟨S1x16384x1, .i32⟩
  | .hbm, ⟨35, _⟩ => ⟨S512, .i32⟩
  | .hbm, ⟨36, _⟩ => ⟨S512x1x1, .i32⟩
  | .hbm, ⟨37, _⟩ => ⟨S512x16384x1, .i32⟩
  | .hbm, ⟨38, _⟩ => ⟨S512x16384x1, .i32⟩
  | .hbm, ⟨39, _⟩ => ⟨S512x16384x1, .i1⟩
  | .hbm, ⟨40, _⟩ => ⟨S1x16384x128, .f32⟩
  | .hbm, ⟨41, _⟩ => ⟨S_, .f32⟩
  | .hbm, ⟨42, _⟩ => ⟨S_, .f32⟩
  | .hbm, ⟨43, _⟩ => ⟨S512x16384x128, .i1⟩
  | .hbm, ⟨44, _⟩ => ⟨S512x16384x128, .f32⟩
  | .hbm, ⟨45, _⟩ => ⟨S512x16384x128, .f32⟩
  | .hbm, ⟨46, _⟩ => ⟨S512x16384x128, .f32⟩
  | .hbm, ⟨47, _⟩ => ⟨S_, .f32⟩
  | .hbm, ⟨48, _⟩ => ⟨S512x128, .f32⟩
  | .hbm, ⟨49, _⟩ => ⟨S512x256, .f32⟩
  | .hbm, ⟨50, _⟩ => ⟨S512x256, .f32⟩
  | .hbm, ⟨51, _⟩ => ⟨S1x256, .f32⟩
  | .hbm, ⟨52, _⟩ => ⟨S512x256, .f32⟩
  | .hbm, ⟨53, _⟩ => ⟨S512x256, .f32⟩
  | .hbm, ⟨54, _⟩ => ⟨S512x256, .f32⟩
  | .hbm, ⟨55, _⟩ => ⟨S1x256, .f32⟩
  | .hbm, ⟨56, _⟩ => ⟨S512x256, .f32⟩
  | .hbm, ⟨57, _⟩ => ⟨S512x256, .f32⟩
  | .hbm, ⟨58, _⟩ => ⟨S512x768, .f32⟩
  | .hbm, ⟨59, _⟩ => ⟨S512x1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S_, .f32⟩
  | .hbm, ⟨64, _⟩ => ⟨S512x1024, .f32⟩
  | .hbm, ⟨65, _⟩ => ⟨S512x1024, .f32⟩
  | .hbm, ⟨66, _⟩ => ⟨S512x256, .f32⟩
  | .hbm, ⟨67, _⟩ => ⟨S1x256, .f32⟩
  | .hbm, ⟨68, _⟩ => ⟨S512x256, .f32⟩
  | .hbm, ⟨69, _⟩ => ⟨S512x256, .f32⟩
  | .hbm, ⟨70, _⟩ => ⟨S_, .f32⟩
  | .hbm, ⟨71, _⟩ => ⟨S512x256, .f32⟩
  | .hbm, ⟨72, _⟩ => ⟨S512x256, .f32⟩
  | .hbm, ⟨73, _⟩ => ⟨S512x1, .f32⟩
  | .hbm, ⟨74, _⟩ => ⟨S1x1, .f32⟩
  | .hbm, ⟨75, _⟩ => ⟨S512x1, .f32⟩
  | .hbm, ⟨76, _⟩ => ⟨S512x1, .f32⟩
  | .hbm, ⟨77, _⟩ => ⟨S512, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_cst : Ref sig .tc := ⟨.hbm, 63, rfl⟩
abbrev main_call1_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call2_cst : Ref sig .tc := ⟨.hbm, 70, rfl⟩
abbrev main_call2_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Kernel.lean ====
abbrev S16384x74 : Shape := ⟨2, ![16384, 74]⟩
abbrev S2x49152 : Shape := ⟨2, ![2, 49152]⟩
abbrev S16384 : Shape := ⟨1, ![16384]⟩
abbrev S512x1024 : Shape := ⟨2, ![512, 1024]⟩
abbrev S512x10000 : Shape := ⟨2, ![512, 10000]⟩
abbrev S74x740 : Shape := ⟨2, ![74, 740]⟩
abbrev S10x74 : Shape := ⟨2, ![10, 74]⟩
abbrev S740 : Shape := ⟨1, ![740]⟩
abbrev S740x128 : Shape := ⟨2, ![740, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1024x256 : Shape := ⟨2, ![1024, 256]⟩
abbrev S256 : Shape := ⟨1, ![256]⟩
abbrev S10000x256 : Shape := ⟨2, ![10000, 256]⟩
abbrev S768x1024 : Shape := ⟨2, ![768, 1024]⟩
abbrev S1024 : Shape := ⟨1, ![1024]⟩
abbrev S256x1 : Shape := ⟨2, ![256, 1]⟩
abbrev S1x49152 : Shape := ⟨2, ![1, 49152]⟩
abbrev S49152 : Shape := ⟨1, ![49152]⟩
abbrev S16384x740 : Shape := ⟨2, ![16384, 740]⟩
abbrev S16384x10x74 : Shape := ⟨3, ![16384, 10, 74]⟩
abbrev S1x10x74 : Shape := ⟨3, ![1, 10, 74]⟩
abbrev S_ : Shape := ⟨0, ![]⟩
abbrev S16384x10 : Shape := ⟨2, ![16384, 10]⟩
abbrev S49152x1 : Shape := ⟨2, ![49152, 1]⟩
abbrev S49152x10 : Shape := ⟨2, ![49152, 10]⟩
abbrev S49152x10x74 : Shape := ⟨3, ![49152, 10, 74]⟩
abbrev S49152x10x1 : Shape := ⟨3, ![49152, 10, 1]⟩
abbrev S16384x10x1 : Shape := ⟨3, ![16384, 10, 1]⟩
abbrev S16384x128 : Shape := ⟨2, ![16384, 128]⟩
abbrev S16384x1x128 : Shape := ⟨3, ![16384, 1, 128]⟩
abbrev S1x1x128 : Shape := ⟨3, ![1, 1, 128]⟩
abbrev S16384x1 : Shape := ⟨2, ![16384, 1]⟩
abbrev S49152x1x128 : Shape := ⟨3, ![49152, 1, 128]⟩
abbrev S49152x1x1 : Shape := ⟨3, ![49152, 1, 1]⟩
abbrev S16384x1x1 : Shape := ⟨3, ![16384, 1, 1]⟩
abbrev S512x32x128 : Shape := ⟨3, ![512, 32, 128]⟩
abbrev S1x1 : Shape := ⟨2, ![1, 1]⟩
abbrev S1x256 : Shape := ⟨2, ![1, 256]⟩
abbrev S1x1024 : Shape := ⟨2, ![1, 1024]⟩
abbrev S512x1 : Shape := ⟨2, ![512, 1]⟩
abbrev S512x32x1 : Shape := ⟨3, ![512, 32, 1]⟩
abbrev S512x128 : Shape := ⟨2, ![512, 128]⟩
abbrev S512x256 : Shape := ⟨2, ![512, 256]⟩
abbrev S512x768 : Shape := ⟨2, ![512, 768]⟩
abbrev S512 : Shape := ⟨1, ![512]⟩

abbrev nBuf : Space → Nat
  | .hbm => 238
  | .vmem => 16
  | .smem => 0
  | _ => 0

abbrev hbmTy0_0 (i : Nat) : BufTy := match i % 128 with
  | 0 => ⟨S16384x74, .f32⟩
  | 1 => ⟨S2x49152, .i32⟩
  | 2 => ⟨S16384, .i32⟩
  | 3 => ⟨S512x1024, .f32⟩
  | 4 => ⟨S512x10000, .f32⟩
  | 5 => ⟨S74x740, .f32⟩
  | 6 => ⟨S10x74, .f32⟩
  | 7 => ⟨S10x74, .f32⟩
  | 8 => ⟨S740, .f32⟩
  | 9 => ⟨S740x128, .f32⟩
  | 10 => ⟨S1x128, .f32⟩
  | 11 => ⟨S1x128, .f32⟩
  | 12 => ⟨S128, .f32⟩
  | 13 => ⟨S128x1, .f32⟩
  | 14 => ⟨S1, .f32⟩
  | 15 => ⟨S1024x256, .f32⟩
  | 16 => ⟨S256, .f32⟩
  | 17 => ⟨S10000x256, .f32⟩
  | 18 => ⟨S256, .f32⟩
  | 19 => ⟨S768x1024, .f32⟩
  | 20 => ⟨S1024, .f32⟩
  | 21 => ⟨S1024x256, .f32⟩
  | 22 => ⟨S256, .f32⟩
  | 23 => ⟨S256x1, .f32⟩
  | 24 => ⟨S1, .f32⟩
  | 25 => ⟨S1x49152, .i32⟩
  | 26 => ⟨S49152, .i32⟩
  | 27 => ⟨S1x49152, .i32⟩
  | 28 => ⟨S49152, .i32⟩
  | 29 => ⟨S16384x740, .f32⟩
  | 30 => ⟨S16384x10x74, .f32⟩
  | 31 => ⟨S1x10x74, .f32⟩
  | 32 => ⟨S16384x10x74, .f32⟩
  | 33 => ⟨S16384x10x74, .f32⟩
  | 34 => ⟨S_, .f32⟩
  | 35 => ⟨S16384x10, .f32⟩
  | 36 => ⟨S1x10x74, .f32⟩
  | 37 => ⟨S16384x10x74, .f32⟩
  | 38 => ⟨S16384x10x74, .f32⟩
  | 39 => ⟨S_, .f32⟩
  | 40 => ⟨S16384x10, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .i32⟩
  | 53 => ⟨S49152, .i32⟩
  | 54 => ⟨S49152, .i1⟩
  | 55 => ⟨S_, .i32⟩
  | 56 => ⟨S49152, .i32⟩
  | 57 => ⟨S49152, .i32⟩
  | 58 => ⟨S49152, .i32⟩
  | 59 => ⟨S49152x1, .i32⟩
  | 60 => ⟨S49152x10, .f32⟩
  | 61 => ⟨S_, .i32⟩
  | 62 => ⟨S49152, .i32⟩
  | 63 => ⟨S49152, .i1⟩
  | 64 => ⟨S_, .i32⟩
  | 65 => ⟨S49152, .i32⟩
  | 66 => ⟨S49152, .i32⟩
  | 67 => ⟨S49152, .i32⟩
  | 68 => ⟨S49152x1, .i32⟩
  | 69 => ⟨S49152x10, .f32⟩
  | 70 => ⟨S49152x10, .f32⟩
  | 71 => ⟨S_, .f32⟩
  | 72 => ⟨S_, .f32⟩
  | 73 => ⟨S49152x10, .f32⟩
  | 74 => ⟨S49152x10, .i1⟩
  | 75 => ⟨S_, .f32⟩
  | 76 => ⟨S49152x10, .f32⟩
  | 77 => ⟨S49152x10, .f32⟩
  | 78 => ⟨S49152x10, .f32⟩
  | 79 => ⟨S49152x10, .f32⟩
  | 80 => ⟨S49152x10, .f32⟩
  | 81 => ⟨S49152x10, .f32⟩
  | 82 => ⟨S_, .f32⟩
  | 83 => ⟨S16384x10, .f32⟩
  | 84 => ⟨S49152x1, .i32⟩
  | 85 => ⟨S16384x10, .f32⟩
  | 86 => ⟨S_, .i32⟩
  | 87 => ⟨S49152, .i32⟩
  | 88 => ⟨S49152, .i1⟩
  | 89 => ⟨S_, .i32⟩
  | 90 => ⟨S49152, .i32⟩
  | 91 => ⟨S49152, .i32⟩
  | 92 => ⟨S49152, .i32⟩
  | 93 => ⟨S49152x1, .i32⟩
  | 94 => ⟨S49152x10x74, .f32⟩
  | 95 => ⟨S49152x10x1, .f32⟩
  | 96 => ⟨S49152x10x74, .f32⟩
  | 97 => ⟨S49152x10x74, .f32⟩
  | 98 => ⟨S_, .f32⟩
  | 99 => ⟨S16384x10x74, .f32⟩
  | 100 => ⟨S49152x1, .i32⟩
  | 101 => ⟨S16384x10x74, .f32⟩
  | 102 => ⟨S16384x10x1, .f32⟩
  | 103 => ⟨S_, .f32⟩
  | 104 => ⟨S16384x10x1, .f32⟩
  | 105 => ⟨S16384x10x1, .f32⟩
  | 106 => ⟨S16384x10x74, .f32⟩
  | 107 => ⟨S16384x10x74, .f32⟩
  | 108 => ⟨S1x10x74, .f32⟩
  | 109 => ⟨S16384x10x74, .f32⟩
  | 110 => ⟨S16384x10x74, .f32⟩
  | 111 => ⟨S16384x740, .f32⟩
  | 112 => ⟨S_, .f32⟩
  | 113 => ⟨S16384x740, .f32⟩
  | 114 => ⟨S16384x740, .i1⟩
  | 115 => ⟨S_, .f32⟩
  | 116 => ⟨S16384x740, .f32⟩
  | 117 => ⟨S16384x740, .i1⟩
  | 118 => ⟨S_, .f32⟩
  | 119 => ⟨S_, .f32⟩
  | 120 => ⟨S16384x740, .f32⟩
  | 121 => ⟨S16384x740, .f32⟩
  | 122 => ⟨S16384x740, .f32⟩
  | 123 => ⟨S_, .f32⟩
  | 124 => ⟨S16384x740, .f32⟩
  | 125 => ⟨S16384x740, .f32⟩
  | 126 => ⟨S16384x740, .f32⟩
  | 127 => ⟨S16384x128, .f32⟩
  | _ => ⟨S16384x74, .f32⟩

abbrev hbmTy0_1 (i : Nat) : BufTy := match i % 128 with
  | 0 => ⟨S16384x1x128, .f32⟩
  | 1 => ⟨S1x1x128, .f32⟩
  | 2 => ⟨S16384x1x128, .f32⟩
  | 3 => ⟨S16384x1x128, .f32⟩
  | 4 => ⟨S_, .f32⟩
  | 5 => ⟨S16384x1, .f32⟩
  | 6 => ⟨S1x1x128, .f32⟩
  | 7 => ⟨S16384x1x128, .f32⟩
  | 8 => ⟨S16384x1x128, .f32⟩
  | 9 => ⟨S_, .f32⟩
  | 10 => ⟨S16384x1, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .i1⟩
  | 19 => ⟨S_, .f32⟩
  | 20 => ⟨S_, .f32⟩
  | 21 => ⟨S_, .f32⟩
  | 22 => ⟨S_, .i32⟩
  | 23 => ⟨S49152, .i32⟩
  | 24 => ⟨S49152, .i1⟩
  | 25 => ⟨S_, .i32⟩
  | 26 => ⟨S49152, .i32⟩
  | 27 => ⟨S49152, .i32⟩
  | 28 => ⟨S49152, .i32⟩
  | 29 => ⟨S49152x1, .i32⟩
  | 30 => ⟨S49152x1, .f32⟩
  | 31 => ⟨S_, .i32⟩
  | 32 => ⟨S49152, .i32⟩
  | 33 => ⟨S49152, .i1⟩
  | 34 => ⟨S_, .i32⟩
  | 35 => ⟨S49152, .i32⟩
  | 36 => ⟨S49152, .i32⟩
  | 37 => ⟨S49152, .i32⟩
  | 38 => ⟨S49152x1, .i32⟩
  | 39 => ⟨S49152x1, .f32⟩
  | 40 => ⟨S49152x1, .f32⟩
  | 41 => ⟨S_, .f32⟩
  | 42 => ⟨S_, .f32⟩
  | 43 => ⟨S49152x1, .f32⟩
  | 44 => ⟨S49152x1, .i1⟩
  | 45 => ⟨S_, .f32⟩
  | 46 => ⟨S49152x1, .f32⟩
  | 47 => ⟨S49152x1, .f32⟩
  | 48 => ⟨S49152x1, .f32⟩
  | 49 => ⟨S49152x1, .f32⟩
  | 50 => ⟨S49152x1, .f32⟩
  | 51 => ⟨S49152x1, .f32⟩
  | 52 => ⟨S_, .f32⟩
  | 53 => ⟨S16384x1, .f32⟩
  | 54 => ⟨S49152x1, .i32⟩
  | 55 => ⟨S16384x1, .f32⟩
  | 56 => ⟨S_, .i32⟩
  | 57 => ⟨S49152, .i32⟩
  | 58 => ⟨S49152, .i1⟩
  | 59 => ⟨S_, .i32⟩
  | 60 => ⟨S49152, .i32⟩
  | 61 => ⟨S49152, .i32⟩
  | 62 => ⟨S49152, .i32⟩
  | 63 => ⟨S49152x1, .i32⟩
  | 64 => ⟨S49152x1x128, .f32⟩
  | 65 => ⟨S49152x1x1, .f32⟩
  | 66 => ⟨S49152x1x128, .f32⟩
  | 67 => ⟨S49152x1x128, .f32⟩
  | 68 => ⟨S_, .f32⟩
  | 69 => ⟨S16384x1x128, .f32⟩
  | 70 => ⟨S49152x1, .i32⟩
  | 71 => ⟨S16384x1x128, .f32⟩
  | 72 => ⟨S16384x1x1, .f32⟩
  | 73 => ⟨S_, .f32⟩
  | 74 => ⟨S16384x1x1, .f32⟩
  | 75 => ⟨S16384x1x1, .f32⟩
  | 76 => ⟨S16384x1x128, .f32⟩
  | 77 => ⟨S16384x1x128, .f32⟩
  | 78 => ⟨S1x1x128, .f32⟩
  | 79 => ⟨S16384x1x128, .f32⟩
  | 80 => ⟨S16384x1x128, .f32⟩
  | 81 => ⟨S_, .f32⟩
  | 82 => ⟨S16384x128, .f32⟩
  | 83 => ⟨S_, .f32⟩
  | 84 => ⟨S16384x128, .f32⟩
  | 85 => ⟨S16384x128, .f32⟩
  | 86 => ⟨S_, .f32⟩
  | 87 => ⟨S16384x128, .f32⟩
  | 88 => ⟨S16384x128, .i1⟩
  | 89 => ⟨S_, .f32⟩
  | 90 => ⟨S16384x128, .f32⟩
  | 91 => ⟨S16384x128, .i1⟩
  | 92 => ⟨S_, .f32⟩
  | 93 => ⟨S_, .f32⟩
  | 94 => ⟨S16384x128, .f32⟩
  | 95 => ⟨S16384x128, .f32⟩
  | 96 => ⟨S16384x128, .f32⟩
  | 97 => ⟨S_, .f32⟩
  | 98 => ⟨S16384x128, .f32⟩
  | 99 => ⟨S16384x128, .f32⟩
  | 100 => ⟨S16384x128, .f32⟩
  | 101 => ⟨S512x32x128, .f32⟩
  | 102 => ⟨S1x1, .f32⟩
  | 103 => ⟨S1x256, .f32⟩
  | 104 => ⟨S1x256, .f32⟩
  | 105 => ⟨S1x1024, .f32⟩
  | 106 => ⟨S1x256, .f32⟩
  | 107 => ⟨S1x1, .f32⟩
  | 108 => ⟨S512x1, .f32⟩
  | 109 => ⟨S512, .f32⟩
  | _ => ⟨S16384x74, .f32⟩

abbrev hbmTy (i : Nat) : BufTy := match i / 128 with
  | 0 => hbmTy0_0 i
  | 1 => hbmTy0_1 i
  | _ => ⟨S16384x74, .f32⟩

abbrev bufTy : (tb : Table) → Fin (tcTables nBuf tb) → BufTy
  | .hbm, ⟨i, _⟩ => hbmTy i
  | .local _ .vmem, ⟨0, _⟩ => ⟨S512x32x128, .f32⟩
  | .local _ .vmem, ⟨1, _⟩ => ⟨S512x1024, .f32⟩
  | .local _ .vmem, ⟨2, _⟩ => ⟨S512x10000, .f32⟩
  | .local _ .vmem, ⟨3, _⟩ => ⟨S128x1, .f32⟩
  | .local _ .vmem, ⟨4, _⟩ => ⟨S1x1, .f32⟩
  | .local _ .vmem, ⟨5, _⟩ => ⟨S1024x256, .f32⟩
  | .local _ .vmem, ⟨6, _⟩ => ⟨S1x256, .f32⟩
  | .local _ .vmem, ⟨7, _⟩ => ⟨S10000x256, .f32⟩
  | .local _ .vmem, ⟨8, _⟩ => ⟨S1x256, .f32⟩
  | .local _ .vmem, ⟨9, _⟩ => ⟨S768x1024, .f32⟩
  | .local _ .vmem, ⟨10, _⟩ => ⟨S1x1024, .f32⟩
  | .local _ .vmem, ⟨11, _⟩ => ⟨S1024x256, .f32⟩
  | .local _ .vmem, ⟨12, _⟩ => ⟨S1x256, .f32⟩
  | .local _ .vmem, ⟨13, _⟩ => ⟨S256x1, .f32⟩
  | .local _ .vmem, ⟨14, _⟩ => ⟨S1x1, .f32⟩
  | .local _ .vmem, ⟨15, _⟩ => ⟨S512x1, .f32⟩
  | _, _ => ⟨S16384x74, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_c_6 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_7 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_8 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_9 : Ref sig .tc := ⟨.hbm, 86, rfl⟩
abbrev main_v40 : Ref sig .tc := ⟨.hbm, 87, rfl⟩
abbrev main_v41 : Ref sig .tc := ⟨.hbm, 88, rfl⟩
abbrev main_c_10 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_11 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_12 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_cst_1 : Ref sig .tc := ⟨.hbm, 118, rfl⟩
abbrev main_call2_call0_v0 : Ref sig .tc := ⟨.hbm, 119, rfl⟩
abbrev main_call2_call0_v1 : Ref sig .tc := ⟨.hbm, 120, rfl⟩
abbrev main_call2_v4 : Ref sig .tc := ⟨.hbm, 121, rfl⟩
abbrev main_call2_v5 : Ref sig .tc := ⟨.hbm, 122, rfl⟩
abbrev main_call2_cst_2 : Ref sig .tc := ⟨.hbm, 123, rfl⟩
abbrev main_call2_v6 : Ref sig .tc := ⟨.hbm, 124, rfl⟩
abbrev main_call2_v7 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_13 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_14 : Ref sig .tc := ⟨.hbm, 137, rfl⟩
abbrev main_v72 : Ref sig .tc := ⟨.hbm, 138, rfl⟩
abbrev main_cst_15 : Ref sig .tc := ⟨.hbm, 139, rfl⟩
abbrev main_v73 : Ref sig .tc := ⟨.hbm, 140, rfl⟩
abbrev main_cst_16 : Ref sig .tc := ⟨.hbm, 141, rfl⟩
abbrev main_v74 : Ref sig .tc := ⟨.hbm, 142, rfl⟩
abbrev main_v75 : Ref sig .tc := ⟨.hbm, 143, rfl⟩
abbrev main_cst_17 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v76 : Ref sig .tc := ⟨.hbm, 149, rfl⟩
abbrev main_c_18 : Ref sig .tc := ⟨.hbm, 150, rfl⟩
abbrev main_v77 : Ref sig .tc := ⟨.hbm, 151, rfl⟩
abbrev main_v78 : Ref sig .tc := ⟨.hbm, 152, rfl⟩
abbrev main_c_19 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_c_20 : Ref sig .tc := ⟨.hbm, 159, rfl⟩
abbrev main_v84 : Ref sig .tc := ⟨.hbm, 160, rfl⟩
abbrev main_v85 : Ref sig .tc := ⟨.hbm, 161, rfl⟩
abbrev main_c_21 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_cst_22 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_cst_23 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_c_24 : Ref sig .tc := ⟨.hbm, 184, rfl⟩
abbrev main_v99 : Ref sig .tc := ⟨.hbm, 185, rfl⟩
abbrev main_v100 : Ref sig .tc := ⟨.hbm, 186, rfl⟩
abbrev main_c_25 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_cst_26 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_cst_27 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_cst_28 : Ref sig .tc := ⟨.hbm, 209, rfl⟩
abbrev main_v120 : Ref sig .tc := ⟨.hbm, 210, rfl⟩
abbrev main_cst_29 : Ref sig .tc := ⟨.hbm, 211, rfl⟩
abbrev main_v121 : Ref sig .tc := ⟨.hbm, 212, rfl⟩
abbrev main_v122 : Ref sig .tc := ⟨.hbm, 213, rfl⟩
abbrev main_call5_cst : Ref sig .tc := ⟨.hbm, 214, rfl⟩
abbrev main_call5_v0 : Ref sig .tc := ⟨.hbm, 215, rfl⟩
abbrev main_call5_v1 : Ref sig .tc := ⟨.hbm, 216, rfl⟩
abbrev main_call5_cst_0 : Ref sig .tc := ⟨.hbm, 217, rfl⟩
abbrev main_call5_v2 : Ref sig .tc := ⟨.hbm, 218, rfl⟩
abbrev main_call5_v3 : Ref sig .tc := ⟨.hbm, 219, rfl⟩
abbrev main_call5_cst_1 : Ref sig .tc := ⟨.hbm, 220, rfl⟩
abbrev main_call5_call0_v0 : Ref sig .tc := ⟨.hbm, 221, rfl⟩
abbrev main_call5_call0_v1 : Ref sig .tc := ⟨.hbm, 222, rfl⟩
abbrev main_call5_v4 : Ref sig .tc := ⟨.hbm, 223, rfl⟩
abbrev main_call5_v5 : Ref sig .tc := ⟨.hbm, 224, rfl⟩
abbrev main_call5_cst_2 : Ref sig .tc := ⟨.hbm, 225, rfl⟩
abbrev main_call5_v6 : Ref sig .tc := ⟨.hbm, 226, rfl⟩
abbrev main_call5_v7 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S512x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10000x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S16384x74 : Shape := ⟨2, ![16384, 74]⟩
abbrev S2x49152 : Shape := ⟨2, ![2, 49152]⟩
abbrev S16384 : Shape := ⟨1, ![16384]⟩
abbrev S512x1024 : Shape := ⟨2, ![512, 1024]⟩
abbrev S512x10000 : Shape := ⟨2, ![512, 10000]⟩
abbrev S74x740 : Shape := ⟨2, ![74, 740]⟩
abbrev S10x74 : Shape := ⟨2, ![10, 74]⟩
abbrev S740 : Shape := ⟨1, ![740]⟩
abbrev S740x128 : Shape := ⟨2, ![740, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1024x256 : Shape := ⟨2, ![1024, 256]⟩
abbrev S256 : Shape := ⟨1, ![256]⟩
abbrev S10000x256 : Shape := ⟨2, ![10000, 256]⟩
abbrev S768x1024 : Shape := ⟨2, ![768, 1024]⟩
abbrev S1024 : Shape := ⟨1, ![1024]⟩
abbrev S256x1 : Shape := ⟨2, ![256, 1]⟩
abbrev S1x49152 : Shape := ⟨2, ![1, 49152]⟩
abbrev S49152 : Shape := ⟨1, ![49152]⟩
abbrev S16384x740 : Shape := ⟨2, ![16384, 740]⟩
abbrev S16384x10x74 : Shape := ⟨3, ![16384, 10, 74]⟩
abbrev S1x10x74 : Shape := ⟨3, ![1, 10, 74]⟩
abbrev S_ : Shape := ⟨0, ![]⟩
abbrev S16384x10 : Shape := ⟨2, ![16384, 10]⟩
abbrev S49152x1 : Shape := ⟨2, ![49152, 1]⟩
abbrev S49152x10 : Shape := ⟨2, ![49152, 10]⟩
abbrev S1x49152x1 : Shape := ⟨3, ![1, 49152, 1]⟩
abbrev S16384x1x1 : Shape := ⟨3, ![16384, 1, 1]⟩
abbrev S16384x49152x1 : Shape := ⟨3, ![16384, 49152, 1]⟩
abbrev S1x49152x10 : Shape := ⟨3, ![1, 49152, 10]⟩
abbrev S16384x49152x10 : Shape := ⟨3, ![16384, 49152, 10]⟩
abbrev S49152x10x74 : Shape := ⟨3, ![49152, 10, 74]⟩
abbrev S49152x10x1 : Shape := ⟨3, ![49152, 10, 1]⟩
abbrev S16384x128 : Shape := ⟨2, ![16384, 128]⟩
abbrev S16384x1x128 : Shape := ⟨3, ![16384, 1, 128]⟩
abbrev S1x1x128 : Shape := ⟨3, ![1, 1, 128]⟩
abbrev S16384x1 : Shape := ⟨2, ![16384, 1]⟩
abbrev S49152x1x128 : Shape := ⟨3, ![49152, 1, 128]⟩
abbrev S49152x1x1 : Shape := ⟨3, ![49152, 1, 1]⟩
abbrev S1x1 : Shape := ⟨2, ![1, 1]⟩
abbrev S512x128 : Shape := ⟨2, ![512, 128]⟩
abbrev S1x16384x1 : Shape := ⟨3, ![1, 16384, 1]⟩
abbrev S512 : Shape := ⟨1, ![512]⟩
abbrev S512x1x1 : Shape := ⟨3, ![512, 1, 1]⟩
abbrev S512x16384x1 : Shape := ⟨3, ![512, 16384, 1]⟩
abbrev S1x16384x128 : Shape := ⟨3, ![1, 16384, 128]⟩
abbrev S512x16384x128 : Shape := ⟨3, ![512, 16384, 128]⟩
abbrev S512x256 : Shape := ⟨2, ![512, 256]⟩
abbrev S1x256 : Shape := ⟨2, ![1, 256]⟩
abbrev S512x768 : Shape := ⟨2, ![512, 768]⟩
abbrev S1x1024 : Shape := ⟨2, ![1, 1024]⟩
abbrev S512x1 : Shape := ⟨2, ![512, 1]⟩

abbrev nBuf : Space → Nat
  | .hbm => 392
  | .vmem => 0
  | .smem => 0
  | _ => 0

abbrev hbmTy0_0 (i : Nat) : BufTy := match i % 128 with
  | 0 => ⟨S16384x74, .f32⟩
  | 1 => ⟨S2x49152, .i32⟩
  | 2 => ⟨S16384, .i32⟩
  | 3 => ⟨S512x1024, .f32⟩
  | 4 => ⟨S512x10000, .f32⟩
  | 5 => ⟨S74x740, .f32⟩
  | 6 => ⟨S10x74, .f32⟩
  | 7 => ⟨S10x74, .f32⟩
  | 8 => ⟨S740, .f32⟩
  | 9 => ⟨S740x128, .f32⟩
  | 10 => ⟨S1x128, .f32⟩
  | 11 => ⟨S1x128, .f32⟩
  | 12 => ⟨S128, .f32⟩
  | 13 => ⟨S128x1, .f32⟩
  | 14 => ⟨S1, .f32⟩
  | 15 => ⟨S1024x256, .f32⟩
  | 16 => ⟨S256, .f32⟩
  | 17 => ⟨S10000x256, .f32⟩
  | 18 => ⟨S256, .f32⟩
  | 19 => ⟨S768x1024, .f32⟩
  | 20 => ⟨S1024, .f32⟩
  | 21 => ⟨S1024x256, .f32⟩
  | 22 => ⟨S256, .f32⟩
  | 23 => ⟨S256x1, .f32⟩
  | 24 => ⟨S1, .f32⟩
  | 25 => ⟨S1x49152, .i32⟩
  | 26 => ⟨S49152, .i32⟩
  | 27 => ⟨S1x49152, .i32⟩
  | 28 => ⟨S49152, .i32⟩
  | 29 => ⟨S16384x740, .f32⟩
  | 30 => ⟨S16384x10x74, .f32⟩
  | 31 => ⟨S1x10x74, .f32⟩
  | 32 => ⟨S16384x10x74, .f32⟩
  | 33 => ⟨S16384x10x74, .f32⟩
  | 34 => ⟨S_, .f32⟩
  | 35 => ⟨S16384x10, .f32⟩
  | 36 => ⟨S1x10x74, .f32⟩
  | 37 => ⟨S16384x10x74, .f32⟩
  | 38 => ⟨S16384x10x74, .f32⟩
  | 39 => ⟨S_, .f32⟩
  | 40 => ⟨S16384x10, .f32⟩
  | 41 => ⟨S_, .i32⟩
  | 42 => ⟨S49152, .i32⟩
  | 43 => ⟨S49152, .i1⟩
  | 44 => ⟨S_, .i32⟩
  | 45 => ⟨S49152, .i32⟩
  | 46 => ⟨S49152, .i32⟩
  | 47 => ⟨S49152, .i32⟩
  | 48 => ⟨S49152x1, .i32⟩
  | 49 => ⟨S49152x10, .f32⟩
  | 50 => ⟨S_, .i32⟩
  | 51 => ⟨S49152, .i32⟩
  | 52 => ⟨S49152, .i1⟩
  | 53 => ⟨S_, .i32⟩
  | 54 => ⟨S49152, .i32⟩
  | 55 => ⟨S49152, .i32⟩
  | 56 => ⟨S49152, .i32⟩
  | 57 => ⟨S49152x1, .i32⟩
  | 58 => ⟨S49152x10, .f32⟩
  | 59 => ⟨S49152x10, .f32⟩
  | 60 => ⟨S_, .f32⟩
  | 61 => ⟨S_, .f32⟩
  | 62 => ⟨S49152x10, .f32⟩
  | 63 => ⟨S49152x10, .i1⟩
  | 64 => ⟨S_, .f32⟩
  | 65 => ⟨S49152x10, .f32⟩
  | 66 => ⟨S49152x10, .f32⟩
  | 67 => ⟨S49152x10, .f32⟩
  | 68 => ⟨S1x49152x1, .i32⟩
  | 69 => ⟨S16384, .i32⟩
  | 70 => ⟨S16384x1x1, .i32⟩
  | 71 => ⟨S16384x49152x1, .i32⟩
  | 72 => ⟨S16384x49152x1, .i32⟩
  | 73 => ⟨S16384x49152x1, .i1⟩
  | 74 => ⟨S1x49152x10, .f32⟩
  | 75 => ⟨S_, .f32⟩
  | 76 => ⟨S_, .f32⟩
  | 77 => ⟨S16384x49152x10, .i1⟩
  | 78 => ⟨S16384x49152x10, .f32⟩
  | 79 => ⟨S16384x49152x10, .f32⟩
  | 80 => ⟨S16384x49152x10, .f32⟩
  | 81 => ⟨S_, .f32⟩
  | 82 => ⟨S16384x10, .f32⟩
  | 83 => ⟨S16384x10, .f32⟩
  | 84 => ⟨S_, .f32⟩
  | 85 => ⟨S16384x10, .f32⟩
  | 86 => ⟨S16384x10, .i1⟩
  | 87 => ⟨S_, .f32⟩
  | 88 => ⟨S_, .f32⟩
  | 89 => ⟨S16384x10, .f32⟩
  | 90 => ⟨S16384x10, .f32⟩
  | 91 => ⟨S_, .i32⟩
  | 92 => ⟨S49152, .i32⟩
  | 93 => ⟨S49152, .i1⟩
  | 94 => ⟨S_, .i32⟩
  | 95 => ⟨S49152, .i32⟩
  | 96 => ⟨S49152, .i32⟩
  | 97 => ⟨S49152, .i32⟩
  | 98 => ⟨S49152x1, .i32⟩
  | 99 => ⟨S49152x10, .f32⟩
  | 100 => ⟨S49152x10, .f32⟩
  | 101 => ⟨S49152x10, .f32⟩
  | 102 => ⟨S_, .f32⟩
  | 103 => ⟨S16384x10, .f32⟩
  | 104 => ⟨S49152x1, .i32⟩
  | 105 => ⟨S16384x10, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S16384x10, .f32⟩
  | 118 => ⟨S16384x10, .f32⟩
  | 119 => ⟨S16384x10, .f32⟩
  | 120 => ⟨S_, .f32⟩
  | 121 => ⟨S16384x10, .f32⟩
  | 122 => ⟨S16384x10, .f32⟩
  | 123 => ⟨S_, .i32⟩
  | 124 => ⟨S49152, .i32⟩
  | 125 => ⟨S49152, .i1⟩
  | 126 => ⟨S_, .i32⟩
  | 127 => ⟨S49152, .i32⟩
  | _ => ⟨S16384x74, .f32⟩

abbrev hbmTy0_1 (i : Nat) : BufTy := match i % 128 with
  | 0 => ⟨S49152, .i32⟩
  | 1 => ⟨S49152, .i32⟩
  | 2 => ⟨S49152x1, .i32⟩
  | 3 => ⟨S49152x10, .f32⟩
  | 4 => ⟨S_, .i32⟩
  | 5 => ⟨S49152, .i32⟩
  | 6 => ⟨S49152, .i1⟩
  | 7 => ⟨S_, .i32⟩
  | 8 => ⟨S49152, .i32⟩
  | 9 => ⟨S49152, .i32⟩
  | 10 => ⟨S49152, .i32⟩
  | 11 => ⟨S49152x1, .i32⟩
  | 12 => ⟨S49152x10, .f32⟩
  | 13 => ⟨S49152x10, .f32⟩
  | 14 => ⟨S49152x10, .f32⟩
  | 15 => ⟨S_, .i32⟩
  | 16 => ⟨S49152, .i32⟩
  | 17 => ⟨S49152, .i1⟩
  | 18 => ⟨S_, .i32⟩
  | 19 => ⟨S49152, .i32⟩
  | 20 => ⟨S49152, .i32⟩
  | 21 => ⟨S49152, .i32⟩
  | 22 => ⟨S49152x1, .i32⟩
  | 23 => ⟨S49152x10x74, .f32⟩
  | 24 => ⟨S49152x10x1, .f32⟩
  | 25 => ⟨S49152x10x74, .f32⟩
  | 26 => ⟨S49152x10x74, .f32⟩
  | 27 => ⟨S_, .f32⟩
  | 28 => ⟨S16384x10x74, .f32⟩
  | 29 => ⟨S49152x1, .i32⟩
  | 30 => ⟨S16384x10x74, .f32⟩
  | 31 => ⟨S1x10x74, .f32⟩
  | 32 => ⟨S16384x10x74, .f32⟩
  | 33 => ⟨S16384x10x74, .f32⟩
  | 34 => ⟨S16384x740, .f32⟩
  | 35 => ⟨S_, .f32⟩
  | 36 => ⟨S16384x740, .f32⟩
  | 37 => ⟨S16384x740, .i1⟩
  | 38 => ⟨S_, .f32⟩
  | 39 => ⟨S16384x740, .f32⟩
  | 40 => ⟨S16384x740, .i1⟩
  | 41 => ⟨S_, .f32⟩
  | 42 => ⟨S_, .f32⟩
  | 43 => ⟨S16384x740, .f32⟩
  | 44 => ⟨S16384x740, .f32⟩
  | 45 => ⟨S16384x740, .f32⟩
  | 46 => ⟨S_, .f32⟩
  | 47 => ⟨S16384x740, .f32⟩
  | 48 => ⟨S16384x740, .f32⟩
  | 49 => ⟨S16384x740, .f32⟩
  | 50 => ⟨S16384x128, .f32⟩
  | 51 => ⟨S16384x1x128, .f32⟩
  | 52 => ⟨S1x1x128, .f32⟩
  | 53 => ⟨S16384x1x128, .f32⟩
  | 54 => ⟨S16384x1x128, .f32⟩
  | 55 => ⟨S_, .f32⟩
  | 56 => ⟨S16384x1, .f32⟩
  | 57 => ⟨S1x1x128, .f32⟩
  | 58 => ⟨S16384x1x128, .f32⟩
  | 59 => ⟨S16384x1x128, .f32⟩
  | 60 => ⟨S_, .f32⟩
  | 61 => ⟨S16384x1, .f32⟩
  | 62 => ⟨S_, .i32⟩
  | 63 => ⟨S49152, .i32⟩
  | 64 => ⟨S49152, .i1⟩
  | 65 => ⟨S_, .i32⟩
  | 66 => ⟨S49152, .i32⟩
  | 67 => ⟨S49152, .i32⟩
  | 68 => ⟨S49152, .i32⟩
  | 69 => ⟨S49152x1, .i32⟩
  | 70 => ⟨S49152x1, .f32⟩
  | 71 => ⟨S_, .i32⟩
  | 72 => ⟨S49152, .i32⟩
  | 73 => ⟨S49152, .i1⟩
  | 74 => ⟨S_, .i32⟩
  | 75 => ⟨S49152, .i32⟩
  | 76 => ⟨S49152, .i32⟩
  | 77 => ⟨S49152, .i32⟩
  | 78 => ⟨S49152x1, .i32⟩
  | 79 => ⟨S49152x1, .f32⟩
  | 80 => ⟨S49152x1, .f32⟩
  | 81 => ⟨S_, .f32⟩
  | 82 => ⟨S_, .f32⟩
  | 83 => ⟨S49152x1, .f32⟩
  | 84 => ⟨S49152x1, .i1⟩
  | 85 => ⟨S_, .f32⟩
  | 86 => ⟨S49152x1, .f32⟩
  | 87 => ⟨S49152x1, .f32⟩
  | 88 => ⟨S49152x1, .f32⟩
  | 89 => ⟨S1x49152x1, .i32⟩
  | 90 => ⟨S16384, .i32⟩
  | 91 => ⟨S16384x1x1, .i32⟩
  | 92 => ⟨S16384x49152x1, .i32⟩
  | 93 => ⟨S16384x49152x1, .i32⟩
  | 94 => ⟨S16384x49152x1, .i1⟩
  | 95 => ⟨S1x49152x1, .f32⟩
  | 96 => ⟨S_, .f32⟩
  | 97 => ⟨S_, .f32⟩
  | 98 => ⟨S16384x49152x1, .f32⟩
  | 99 => ⟨S16384x49152x1, .f32⟩
  | 100 => ⟨S16384x49152x1, .f32⟩
  | 101 => ⟨S_, .f32⟩
  | 102 => ⟨S16384x1, .f32⟩
  | 103 => ⟨S16384x1, .f32⟩
  | 104 => ⟨S_, .f32⟩
  | 105 => ⟨S16384x1, .f32⟩
  | 106 => ⟨S16384x1, .i1⟩
  | 107 => ⟨S_, .f32⟩
  | 108 => ⟨S_, .f32⟩
  | 109 => ⟨S16384x1, .f32⟩
  | 110 => ⟨S16384x1, .f32⟩
  | 111 => ⟨S_, .i32⟩
  | 112 => ⟨S49152, .i32⟩
  | 113 => ⟨S49152, .i1⟩
  | 114 => ⟨S_, .i32⟩
  | 115 => ⟨S49152, .i32⟩
  | 116 => ⟨S49152, .i32⟩
  | 117 => ⟨S49152, .i32⟩
  | 118 => ⟨S49152x1, .i32⟩
  | 119 => ⟨S49152x1, .f32⟩
  | 120 => ⟨S49152x1, .f32⟩
  | 121 => ⟨S49152x1, .f32⟩
  | 122 => ⟨S_, .f32⟩
  | 123 => ⟨S16384x1, .f32⟩
  | 124 => ⟨S49152x1, .i32⟩
  | 125 => ⟨S16384x1, .f32⟩
  | 126 => ⟨S_, .f32⟩
  | 127 => ⟨S_, .f32⟩
  | _ => ⟨S16384x74, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S16384x1, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S_, .i32⟩
  | 16 => ⟨S49152, .i32⟩
  | 17 => ⟨S49152, .i1⟩
  | 18 => ⟨S_, .i32⟩
  | 19 => ⟨S49152, .i32⟩
  | 20 => ⟨S49152, .i32⟩
  | 21 => ⟨S49152, .i32⟩
  | 22 => ⟨S49152x1, .i32⟩
  | 23 => ⟨S49152x1, .f32⟩
  | 24 => ⟨S_, .i32⟩
  | 25 => ⟨S49152, .i32⟩
  | 26 => ⟨S49152, .i1⟩
  | 27 => ⟨S_, .i32⟩
  | 28 => ⟨S49152, .i32⟩
  | 29 => ⟨S49152, .i32⟩
  | 30 => ⟨S49152, .i32⟩
  | 31 => ⟨S49152x1, .i32⟩
  | 32 => ⟨S49152x1, .f32⟩
  | 33 => ⟨S49152x1, .f32⟩
  | 34 => ⟨S49152x1, .f32⟩
  | 35 => ⟨S_, .i32⟩
  | 36 => ⟨S49152, .i32⟩
  | 37 => ⟨S49152, .i1⟩
  | 38 => ⟨S_, .i32⟩
  | 39 => ⟨S49152, .i32⟩
  | 40 => ⟨S49152, .i32⟩
  | 41 => ⟨S49152, .i32⟩
  | 42 => ⟨S49152x1, .i32⟩
  | 43 => ⟨S49152x1x128, .f32⟩
  | 44 => ⟨S49152x1x1, .f32⟩
  | 45 => ⟨S49152x1x128, .f32⟩
  | 46 => ⟨S49152x1x128, .f32⟩
  | 47 => ⟨S_, .f32⟩
  | 48 => ⟨S16384x1x128, .f32⟩
  | 49 => ⟨S49152x1, .i32⟩
  | 50 => ⟨S16384x1x128, .f32⟩
  | 51 => ⟨S1x1x128, .f32⟩
  | 52 => ⟨S16384x1x128, .f32⟩
  | 53 => ⟨S16384x1x128, .f32⟩
  | 54 => ⟨S_, .f32⟩
  | 55 => ⟨S16384x128, .f32⟩
  | 56 => ⟨S_, .f32⟩
  | 57 => ⟨S16384x128, .f32⟩
  | 58 => ⟨S16384x128, .f32⟩
  | 59 => ⟨S_, .f32⟩
  | 60 => ⟨S16384x128, .f32⟩
  | 61 => ⟨S16384x128, .i1⟩
  | 62 => ⟨S_, .f32⟩
  | 63 => ⟨S16384x128, .f32⟩
  | 64 => ⟨S16384x128, .i1⟩
  | 65 => ⟨S_, .f32⟩
  | 66 => ⟨S_, .f32⟩
  | 67 => ⟨S16384x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S16384x128, .f32⟩
  | 74 => ⟨S16384x1, .f32⟩
  | 75 => ⟨S1x1, .f32⟩
  | 76 => ⟨S16384x1, .f32⟩
  | 77 => ⟨S16384x1, .f32⟩
  | 78 => ⟨S16384x1, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x128, .f32⟩
  | 87 => ⟨S16384x128, .f32⟩
  | 88 => ⟨S_, .f32⟩
  | 89 => ⟨S512x128, .f32⟩
  | 90 => ⟨S16384x1, .i32⟩
  | 91 => ⟨S512x128, .f32⟩
  | 92 => ⟨S1x16384x1, .i32⟩
  | 93 => ⟨S512, .i32⟩
  | 94 => ⟨S512x1x1, .i32⟩
  | 95 => ⟨S512x16384x1, .i32⟩
  | 96 => ⟨S512x16384x1, .i32⟩
  | 97 => ⟨S512x16384x1, .i1⟩
  | 98 => ⟨S1x16384x128, .f32⟩
  | 99 => ⟨S_, .f32⟩
  | 100 => ⟨S_, .f32⟩
  | 101 => ⟨S512x16384x128, .i1⟩
  | 102 => ⟨S512x16384x128, .f32⟩
  | 103 => ⟨S512x16384x128, .f32⟩
  | 104 => ⟨S512x16384x128, .f32⟩
  | 105 => ⟨S_, .f32⟩
  | 106 => ⟨S512x128, .f32⟩
  | 107 => ⟨S512x256, .f32⟩
  | 108 => ⟨S512x256, .f32⟩
  | 109 => ⟨S1x256, .f32⟩
  | 110 => ⟨S512x256, .f32⟩
  | 111 => ⟨S512x256, .f32⟩
  | 112 => ⟨S512x256, .f32⟩
  | 113 => ⟨S1x256, .f32⟩
  | 114 => ⟨S512x256, .f32⟩
  | 115 => ⟨S512x256, .f32⟩
  | 116 => ⟨S512x768, .f32⟩
  | 117 => ⟨S512x1024, .f32⟩
  | 118 => ⟨S1x1024, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S512x256, .f32⟩
  | 125 => ⟨S1x256, .f32⟩
  | 126 => ⟨S512x256, .f32⟩
  | 127 => ⟨S512x256, .f32⟩
  | _ => ⟨S16384x74, .f32⟩

abbrev hbmTy0_3 (i : Nat) : BufTy := match i % 128 with
  | 0 => ⟨S_, .f32⟩
  | 1 => ⟨S512x256, .f32⟩
  | 2 => ⟨S512x256, .f32⟩
  | 3 => ⟨S512x1, .f32⟩
  | 4 => ⟨S1x1, .f32⟩
  | 5 => ⟨S512x1, .f32⟩
  | 6 => ⟨S512x1, .f32⟩
  | 7 => ⟨S512, .f32⟩
  | _ => ⟨S16384x74, .f32⟩

abbrev hbmTy (i : Nat) : BufTy := match i / 128 with
  | 0 => hbmTy0_0 i
  | 1 => hbmTy0_1 i
  | 2 => hbmTy0_2 i
  | 3 => hbmTy0_3 i
  | _ => ⟨S16384x74, .f32⟩

abbrev bufTy : (tb : Table) → Fin (tcTables nBuf tb) → BufTy
  | .hbm, ⟨i, _⟩ => hbmTy i
  | _, _ => ⟨S16384x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_c_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_v37 : Ref sig .tc := ⟨.hbm, 80, rfl⟩
abbrev main_cst_6 : Ref sig .tc := ⟨.hbm, 81, rfl⟩
abbrev main_v38 : Ref sig .tc := ⟨.hbm, 82, rfl⟩
abbrev main_v39 : Ref sig .tc := ⟨.hbm, 83, rfl⟩
abbrev main_cst_7 : Ref sig .tc := ⟨.hbm, 84, rfl⟩
abbrev main_v40 : Ref sig .tc := ⟨.hbm, 85, rfl⟩
abbrev main_v41 : Ref sig .tc := ⟨.hbm, 86, rfl⟩
abbrev main_cst_8 : Ref sig .tc := ⟨.hbm, 87, rfl⟩
abbrev main_call2_v0 : Ref sig .tc := ⟨.hbm, 88, rfl⟩
abbrev main_call2_v1 : Ref sig .tc := ⟨.hbm, 89, rfl⟩
abbrev main_v42 : Ref sig .tc := ⟨.hbm, 90, rfl⟩
abbrev main_c_9 : Ref sig .tc := ⟨.hbm, 91, rfl⟩
abbrev main_v43 : Ref sig .tc := ⟨.hbm, 92, rfl⟩
abbrev main_v44 : Ref sig .tc := ⟨.hbm, 93, rfl⟩
abbrev main_c_10 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_11 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_12 : Ref sig .tc := ⟨.hbm, 106, rfl⟩
abbrev main_v55 : Ref sig .tc := ⟨.hbm, 107, rfl⟩
abbrev main_cst_13 : Ref sig .tc := ⟨.hbm, 108, rfl⟩
abbrev main_v56 : Ref sig .tc := ⟨.hbm, 109, rfl⟩
abbrev main_v57 : Ref sig .tc := ⟨.hbm, 110, rfl⟩
abbrev main_cst_14 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_15 : Ref sig .tc := ⟨.hbm, 120, rfl⟩
abbrev main_v62 : Ref sig .tc := ⟨.hbm, 121, rfl⟩
abbrev main_v63 : Ref sig .tc := ⟨.hbm, 122, rfl⟩
abbrev main_c_16 : Ref sig .tc := ⟨.hbm, 123, rfl⟩
abbrev main_v64 : Ref sig .tc := ⟨.hbm, 124, rfl⟩
abbrev main_v65 : Ref sig .tc := ⟨.hbm, 125, rfl⟩
abbrev main_c_17 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_18 : Ref sig .tc := ⟨.hbm, 132, rfl⟩
abbrev main_v71 : Ref sig .tc := ⟨.hbm, 133, rfl⟩
abbrev main_v72 : Ref sig .tc := ⟨.hbm, 134, rfl⟩
abbrev main_c_19 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_c_20 : Ref sig .tc := ⟨.hbm, 143, rfl⟩
abbrev main_v80 : Ref sig .tc := ⟨.hbm, 144, rfl⟩
abbrev main_v81 : Ref sig .tc := ⟨.hbm, 145, rfl⟩
abbrev main_c_21 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_22 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_call4_cst : Ref sig .tc := ⟨.hbm, 163, rfl⟩
abbrev main_call4_v0 : Ref sig .tc := ⟨.hbm, 164, rfl⟩
abbrev main_call4_v1 : Ref sig .tc := ⟨.hbm, 165, rfl⟩
abbrev main_call4_cst_0 : Ref sig .tc := ⟨.hbm, 166, rfl⟩
abbrev main_call4_v2 : Ref sig .tc := ⟨.hbm, 167, rfl⟩
abbrev main_call4_v3 : Ref sig .tc := ⟨.hbm, 168, rfl⟩
abbrev main_call4_cst_1 : Ref sig .tc := ⟨.hbm, 169, rfl⟩
abbrev main_call4_call0_v0 : Ref sig .tc := ⟨.hbm, 170, rfl⟩
abbrev main_call4_call0_v1 : Ref sig .tc := ⟨.hbm, 171, rfl⟩
abbrev main_call4_v4 : Ref sig .tc := ⟨.hbm, 172, rfl⟩
abbrev main_call4_v5 : Ref sig .tc := ⟨.hbm, 173, rfl⟩
abbrev main_call4_cst_2 : Ref sig .tc := ⟨.hbm, 174, rfl⟩
abbrev main_call4_v6 : Ref sig .tc := ⟨.hbm, 175, rfl⟩
abbrev main_call4_v7 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_cst_23 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_cst_24 : Ref sig .tc := ⟨.hbm, 188, rfl⟩
abbrev main_v107 : Ref sig .tc := ⟨.hbm, 189, rfl⟩
abbrev main_c_25 : Ref sig .tc := ⟨.hbm, 190, rfl⟩
abbrev main_v108 : Ref sig .tc := ⟨.hbm, 191, rfl⟩
abbrev main_v109 : Ref sig .tc := ⟨.hbm, 192, rfl⟩
abbrev main_c_26 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_c_27 : Ref sig .tc := ⟨.hbm, 199, rfl⟩
abbrev main_v115 : Ref sig .tc := ⟨.hbm, 200, rfl⟩
abbrev main_v116 : Ref sig .tc := ⟨.hbm, 201, rfl⟩
abbrev main_c_28 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_cst_29 : Ref sig .tc := ⟨.hbm, 209, rfl⟩
abbrev main_call5_cst : Ref sig .tc := ⟨.hbm, 210, rfl⟩
abbrev main_call5_v0 : Ref sig .tc := ⟨.hbm, 211, rfl⟩
abbrev main_call5_v1 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_30 : Ref sig .tc := ⟨.hbm, 224, rfl⟩
abbrev main_call6_v0 : Ref sig .tc := ⟨.hbm, 225, rfl⟩
abbrev main_call6_v1 : Ref sig .tc := ⟨.hbm, 226, rfl⟩
abbrev main_call6_v2 : Ref sig .tc := ⟨.hbm, 227, rfl⟩
abbrev main_v131 : Ref sig .tc := ⟨.hbm, 228, rfl⟩
abbrev main_cst_31 : Ref sig .tc := ⟨.hbm, 229, rfl⟩
abbrev main_v132 : Ref sig .tc := ⟨.hbm, 230, rfl⟩
abbrev main_v133 : Ref sig .tc := ⟨.hbm, 231, rfl⟩
abbrev main_cst_32 : Ref sig .tc := ⟨.hbm, 232, rfl⟩
abbrev main_v134 : Ref sig .tc := ⟨.hbm, 233, rfl⟩
abbrev main_v135 : Ref sig .tc := ⟨.hbm, 234, rfl⟩
abbrev main_cst_33 : Ref sig .tc := ⟨.hbm, 235, rfl⟩
abbrev main_call7_v0 : Ref sig .tc := ⟨.hbm, 236, rfl⟩
abbrev main_call7_v1 : Ref sig .tc := ⟨.hbm, 237, rfl⟩
abbrev main_v136 : Ref sig .tc := ⟨.hbm, 238, rfl⟩
abbrev main_c_34 : Ref sig .tc := ⟨.hbm, 239, rfl⟩
abbrev main_v137 : Ref sig .tc := ⟨.hbm, 240, rfl⟩
abbrev main_v138 : Ref sig .tc := ⟨.hbm, 241, rfl⟩
abbrev main_c_35 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_cst_36 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_cst_37 : Ref sig .tc := ⟨.hbm, 254, rfl⟩
abbrev main_v149 : Ref sig .tc := ⟨.hbm, 255, rfl⟩
abbrev main_cst_38 : Ref sig .tc := ⟨.hbm, 256, rfl⟩
abbrev main_v150 : Ref sig .tc := ⟨.hbm, 257, rfl⟩
abbrev main_v151 : Ref sig .tc := ⟨.hbm, 258, rfl⟩
abbrev main_cst_39 : Ref sig .tc := ⟨.hbm, 259, rfl⟩
abbrev main_call8_cst : Ref sig .tc := ⟨.hbm, 260, rfl⟩
abbrev main_call8_v0 : Ref sig .tc := ⟨.hbm, 261, rfl⟩
abbrev main_call8_v1 : Ref sig .tc := ⟨.hbm, 262, rfl⟩
abbrev main_call8_v2 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_cst_40 : Ref sig .tc := ⟨.hbm, 268, rfl⟩
abbrev main_v156 : Ref sig .tc := ⟨.hbm, 269, rfl⟩
abbrev main_v157 : Ref sig .tc := ⟨.hbm, 270, rfl⟩
abbrev main_c_41 : Ref sig .tc := ⟨.hbm, 271, rfl⟩
abbrev main_v158 : Ref sig .tc := ⟨.hbm, 272, rfl⟩
abbrev main_v159 : Ref sig .tc := ⟨.hbm, 273, rfl⟩
abbrev main_c_42 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_c_43 : Ref sig .tc := ⟨.hbm, 280, rfl⟩
abbrev main_v165 : Ref sig .tc := ⟨.hbm, 281, rfl⟩
abbrev main_v166 : Ref sig .tc := ⟨.hbm, 282, rfl⟩
abbrev main_c_44 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_c_45 : Ref sig .tc := ⟨.hbm, 291, rfl⟩
abbrev main_v174 : Ref sig .tc := ⟨.hbm, 292, rfl⟩
abbrev main_v175 : Ref sig .tc := ⟨.hbm, 293, rfl⟩
abbrev main_c_46 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_cst_47 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_cst_48 : Ref sig .tc := ⟨.hbm, 310, rfl⟩
abbrev main_v190 : Ref sig .tc := ⟨.hbm, 311, rfl⟩
abbrev main_cst_49 : Ref sig .tc := ⟨.hbm, 312, rfl⟩
abbrev main_v191 : Ref sig .tc := ⟨.hbm, 313, rfl⟩
abbrev main_v192 : Ref sig .tc := ⟨.hbm, 314, rfl⟩
abbrev main_call9_cst : Ref sig .tc := ⟨.hbm, 315, rfl⟩
abbrev main_call9_v0 : Ref sig .tc := ⟨.hbm, 316, rfl⟩
abbrev main_call9_v1 : Ref sig .tc := ⟨.hbm, 317, rfl⟩
abbrev main_call9_cst_0 : Ref sig .tc := ⟨.hbm, 318, rfl⟩
abbrev main_call9_v2 : Ref sig .tc := ⟨.hbm, 319, rfl⟩
abbrev main_call9_v3 : Ref sig .tc := ⟨.hbm, 320, rfl⟩
abbrev main_call9_cst_1 : Ref sig .tc := ⟨.hbm, 321, rfl⟩
abbrev main_call9_call0_v0 : Ref sig .tc := ⟨.hbm, 322, rfl⟩
abbrev main_call9_call0_v1 : Ref sig .tc := ⟨.hbm, 323, rfl⟩
abbrev main_call9_v4 : Ref sig .tc := ⟨.hbm, 324, rfl⟩
abbrev main_call9_v5 : Ref sig .tc := ⟨.hbm, 325, rfl⟩
abbrev main_call9_cst_2 : Ref sig .tc := ⟨.hbm, 326, rfl⟩
abbrev main_call9_v6 : Ref sig .tc := ⟨.hbm, 327, rfl⟩
abbrev main_call9_v7 : Ref sig .tc := ⟨.hbm, 328, rfl⟩
abbrev main_v193 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_cst_50 : Ref sig .tc := ⟨.hbm, 336, rfl⟩
abbrev main_v200 : Ref sig .tc := ⟨.hbm, 337, rfl⟩
abbrev main_v201 : Ref sig .tc := ⟨.hbm, 338, rfl⟩
abbrev main_cst_51 : Ref sig .tc := ⟨.hbm, 339, rfl⟩
abbrev main_v202 : Ref sig .tc := ⟨.hbm, 340, rfl⟩
abbrev main_v203 : Ref sig .tc := ⟨.hbm, 341, rfl⟩
abbrev main_v204 : Ref sig .tc := ⟨.hbm, 342, rfl⟩
abbrev main_v205 : Ref sig .tc := ⟨.hbm, 343, rfl⟩
abbrev main_cst_52 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_v213 : Ref sig .tc := ⟨.hbm, 352, rfl⟩
abbrev main_v214 : Ref sig .tc := ⟨.hbm, 353, rfl⟩
abbrev main_v215 : Ref sig .tc := ⟨.hbm, 354, rfl⟩
abbrev main_cst_53 : Ref sig .tc := ⟨.hbm, 355, rfl⟩
abbrev main_call10_v0 : Ref sig .tc := ⟨.hbm, 356, rfl⟩
abbrev main_call10_v1 : Ref sig .tc := ⟨.hbm, 357, rfl⟩
abbrev main_call10_v2 : Ref sig .tc := ⟨.hbm, 358, rfl⟩
abbrev main_call10_v3 : Ref sig .tc := ⟨.hbm, 359, rfl⟩
abbrev main_v216 : Ref sig .tc := ⟨.hbm, 360, rfl⟩
abbrev main_cst_54 : Ref sig .tc := ⟨.hbm, 361, rfl⟩
abbrev main_v217 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_v223 : Ref sig .tc := ⟨.hbm, 368, rfl⟩
abbrev main_v224 : Ref sig .tc := ⟨.hbm, 369, rfl⟩
abbrev main_v225 : Ref sig .tc := ⟨.hbm, 370, rfl⟩
abbrev main_v226 : Ref sig .tc := ⟨.hbm, 371, rfl⟩
abbrev main_v227 : Ref sig .tc := ⟨.hbm, 372, rfl⟩
abbrev main_v228 : Ref sig .tc := ⟨.hbm, 373, rfl⟩
abbrev main_v229 : Ref sig .tc := ⟨.hbm, 374, rfl⟩
abbrev main_v230 : Ref sig .tc := ⟨.hbm, 375, rfl⟩
abbrev main_v231 : Ref sig .tc := ⟨.hbm, 376, rfl⟩
abbrev main_call11_cst : Ref sig .tc := ⟨.hbm, 377, rfl⟩
abbrev main_call11_v0 : Ref sig .tc := ⟨.hbm, 378, rfl⟩
abbrev main_v232 : Ref sig .tc := ⟨.hbm, 379, rfl⟩
abbrev main_v233 : Ref sig .tc := ⟨.hbm, 380, rfl⟩
abbrev main_v234 : Ref sig .tc := ⟨.hbm, 381, rfl⟩
abbrev main_v235 : Ref sig .tc := ⟨.hbm, 382, rfl⟩
abbrev main_v236 : Ref sig .tc := ⟨.hbm, 383, rfl⟩
abbrev main_call12_cst : Ref sig .tc := ⟨.hbm, 384, rfl⟩
abbrev main_call12_v0 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩

abbrev nD : Nat := 1
abbrev τ : Topo := Topo.v7x

variable {F : FTy → Type} [FloatOps F]
-- ==== Proof.HeadRegion.lean ====
/- What the readout kernel leaves in its result, as its payload of the arrays it reads: the launch from the node features. -/
module

public import proofs.«01_k».proof.Proof.Gen.HeadIdeal.Run
public import Idealize.ShloMosaic.Lib.Pipeline.ValueKit

@[expose] public section

noncomputable section

namespace Cert.HeadIdeal.Region

open Cert.HeadIdeal Cert.HeadIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Every block is its whole array. -/
theorem index_zero : ∀ (w : Fin cfg0.W) (t : Fin cfg0.N) (a : Fin (cfg0.win w).shape.rank), (cfg0.win w).index t a = 0 := by
  decide +kernel

theorem blk0 (c : Dev nD) (t : Fin cfg0.N) : iblk m c 0 t = V m c main_v0 := by
  exact funext fun y => congrArg (V m c main_v0) (funext fun a => Fin.ext (win0_0.rect_emb_val_of_index_zero t a (index_zero 0 t a) y))

theorem blk1 (c : Dev nD) (t : Fin cfg0.N) : iblk m c 1 t = V m c main_arg2 := by
  exact funext fun y => congrArg (V m c main_arg2) (funext fun a => Fin.ext (win0_1.rect_emb_val_of_index_zero t a (index_zero 1 t a) y))

theorem blk2 (c : Dev nD) (t : Fin cfg0.N) : iblk m c 2 t = V m c main_arg3 := by
  exact funext fun y => congrArg (V m c main_arg3) (funext fun a => Fin.ext (win0_2.rect_emb_val_of_index_zero t a (index_zero 2 t a) y))

theorem blk3 (c : Dev nD) (t : Fin cfg0.N) : iblk m c 3 t = V m c main_arg4 := by
  exact funext fun y => congrArg (V m c main_arg4) (funext fun a => Fin.ext (win0_3.rect_emb_val_of_index_zero t a (index_zero 3 t a) y))

theorem blk4 (c : Dev nD) (t : Fin cfg0.N) : iblk m c 4 t = V m c main_v1 := by
  exact funext fun y => congrArg (V m c main_v1) (funext fun a => Fin.ext (win0_4.rect_emb_val_of_index_zero t a (index_zero 4 t a) y))

theorem blk5 (c : Dev nD) (t : Fin cfg0.N) : iblk m c 5 t = V m c main_arg6 := by
  exact funext fun y => congrArg (V m c main_arg6) (funext fun a => Fin.ext (win0_5.rect_emb_val_of_index_zero t a (index_zero 5 t a) y))

theorem blk6 (c : Dev nD) (t : Fin cfg0.N) : iblk m c 6 t = V m c main_v2 := by
  exact funext fun y => congrArg (V m c main_v2) (funext fun a => Fin.ext (win0_6.rect_emb_val_of_index_zero t a (index_zero 6 t a) y))

theorem blk7 (c : Dev nD) (t : Fin cfg0.N) : iblk m c 7 t = V m c main_arg8 := by
  exact funext fun y => congrArg (V m c main_arg8) (funext fun a => Fin.ext (win0_7.rect_emb_val_of_index_zero t a (index_zero 7 t a) y))

theorem blk8 (c : Dev nD) (t : Fin cfg0.N) : iblk m c 8 t = V m c main_v3 := by
  exact funext fun y => congrArg (V m c main_v3) (funext fun a => Fin.ext (win0_8.rect_emb_val_of_index_zero t a (index_zero 8 t a) y))

theorem blk9 (c : Dev nD) (t : Fin cfg0.N) : iblk m c 9 t = V m c main_arg10 := by
  exact funext fun y => congrArg (V m c main_arg10) (funext fun a => Fin.ext (win0_9.rect_emb_val_of_index_zero t a (index_zero 9 t a) y))

theorem blk10 (c : Dev nD) (t : Fin cfg0.N) : iblk m c 10 t = V m c main_v4 := by
  exact funext fun y => congrArg (V m c main_v4) (funext fun a => Fin.ext (win0_10.rect_emb_val_of_index_zero t a (index_zero 10 t a) y))

theorem blk11 (c : Dev nD) (t : Fin cfg0.N) : iblk m c 11 t = V m c main_arg12 := by
  exact funext fun y => congrArg (V m c main_arg12) (funext fun a => Fin.ext (win0_11.rect_emb_val_of_index_zero t a (index_zero 11 t a) y))

theorem blk12 (c : Dev nD) (t : Fin cfg0.N) : iblk m c 12 t = V m c main_v5 := by
  exact funext fun y => congrArg (V m c main_v5) (funext fun a => Fin.ext (win0_12.rect_emb_val_of_index_zero t a (index_zero 12 t a) y))

theorem blk13 (c : Dev nD) (t : Fin cfg0.N) : iblk m c 13 t = V m c main_arg14 := by
  exact funext fun y => congrArg (V m c main_arg14) (funext fun a => Fin.ext (win0_13.rect_emb_val_of_index_zero t a (index_zero 13 t a) y))

theorem blk14 (c : Dev nD) (t : Fin cfg0.N) : iblk m c 14 t = V m c main_v6 := by
  exact funext fun y => congrArg (V m c main_v6) (funext fun a => Fin.ext (win0_14.rect_emb_val_of_index_zero t a (index_zero 14 t a) y))

/-- The output array after the run. -/
theorem region (c : Dev nD) : Value.reg_main_v7 m c
    = k0_pay1 (k0_pay2 (V m c main_v0) (V m c main_arg4) (V m c main_v1) (V m c main_arg2) (V m c main_arg6) (V m c main_v2)
        (V m c main_arg3) (V m c main_arg8) (V m c main_v3) (V m c main_arg10)) (V m c main_v4) (V m c main_arg12)
        (V m c main_v5) (V m c main_arg14) (V m c main_v6) := by
  refine Pipeline.Dat.arrAt_eq_of_covers (dats m 0 c) 15 _ (by decide +kernel) (fun t hf y => ?_)
  blk_simp
  rw [after0_15]
  frame_out
  rw [blk0, blk1, blk2, blk3, blk4, blk5, blk6, blk7, blk8, blk9, blk10, blk11, blk12, blk13, blk14]
  exact congrArg _ (funext fun a => Fin.ext (win0_15.rect_emb_val_of_index_zero t a (index_zero 15 t a) y)).symm

/-! ## The arrays as the launch finds them -/

theorem V_main_v0 (c : Dev nD) : V m c main_v0 = shapeCast _ (m ((c.tc : Thread nD τ).loc main_arg0)) shapeCasts_S16384x128_S512x32x128 := by
  show after (List.flatten [hostOps0]) _ (Proc.devRef .tc main_v0) = _
  simp only [hostOps0, List.flatten_cons, List.flatten_nil, List.append_nil, List.cons_append, List.nil_append]
  after_results <;> rfl

theorem V_main_v1 (c : Dev nD) : V m c main_v1 = shapeCast _ (m ((c.tc : Thread nD τ).loc main_arg5)) shapeCasts_S1_S1x1 := by
  show after (List.flatten [hostOps0]) _ (Proc.devRef .tc main_v1) = _
  simp only [hostOps0, List.flatten_cons, List.flatten_nil, List.append_nil, List.cons_append, List.nil_append]
  after_results <;> rfl

theorem V_main_v2 (c : Dev nD) : V m c main_v2 = shapeCast _ (m ((c.tc : Thread nD τ).loc main_arg7)) shapeCasts_S256_S1x256 := by
  show after (List.flatten [hostOps0]) _ (Proc.devRef .tc main_v2) = _
  simp only [hostOps0, List.flatten_cons, List.flatten_nil, List.append_nil, List.cons_append, List.nil_append]
  after_results <;> rfl

theorem V_main_v3 (c : Dev nD) : V m c main_v3 = shapeCast _ (m ((c.tc : Thread nD τ).loc main_arg9)) shapeCasts_S256_S1x256 := by
  show after (List.flatten [hostOps0]) _ (Proc.devRef .tc main_v3) = _
  simp only [hostOps0, List.flatten_cons, List.flatten_nil, List.append_nil, List.cons_append, List.nil_append]
  after_results <;> rfl

theorem V_main_v4 (c : Dev nD) : V m c main_v4 = shapeCast _ (m ((c.tc : Thread nD τ).loc main_arg11)) shapeCasts_S1024_S1x1024 := by
  show after (List.flatten [hostOps0]) _ (Proc.devRef .tc main_v4) = _
  simp only [hostOps0, List.flatten_cons, List.flatten_nil, List.append_nil, List.cons_append, List.nil_append]
  after_results <;> rfl

theorem V_main_v5 (c : Dev nD) : V m c main_v5 = shapeCast _ (m ((c.tc : Thread nD τ).loc main_arg13)) shapeCasts_S256_S1x256 := by
  show after (List.flatten [hostOps0]) _ (Proc.devRef .tc main_v5) = _
  simp only [hostOps0, List.flatten_cons, List.flatten_nil, List.append_nil, List.cons_append, List.nil_append]
  after_results <;> rfl

theorem V_main_v6 (c : Dev nD) : V m c main_v6 = shapeCast _ (m ((c.tc : Thread nD τ).loc main_arg15)) shapeCasts_S1_S1x1 := by
  show after (List.flatten [hostOps0]) _ (Proc.devRef .tc main_v6) = _
  simp only [hostOps0, List.flatten_cons, List.flatten_nil, List.append_nil, List.cons_append, List.nil_append]
  after_results <;> rfl

end Cert.HeadIdeal.Region

end
-- ==== Proof.Rows.lean ====
/- Rows gathered and rows added: a gather that takes whole rows of an array by one index each, and a scatter that adds whole
   rows to an array by one index each, read at an index, for arrays of two and of three axes. -/
module

public import Idealize.ShloMosaic.Lib.Pointwise
public import Idealize.ShloMosaic.PureOps.Ideal.Laws

@[expose] public section

noncomputable section

namespace Cert.Rows

open Idealize.ShloMosaic

/-- Where an update lands, axis by axis. -/
theorem resultIdx_eq_some {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some_inj]
    constructor
    · rintro rfl a
      have := h a
      simp only []
      omega
    · intro H
      funext a
      apply Fin.ext
      have := H a
      simp only []
      omega
  · rename_i h
    simp only [reduceCtorEq, false_iff]
    intro H
    apply h
    intro a
    have := H a
    have := (i a).isLt
    omega

section Two
variable (N E C : Nat)

/-- Rows of an `[N, C]` array added by one index each. -/
abbrev addRows2 (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Rows of an `[N, C]` array taken by one index each. -/
abbrev takeRows2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable {N E C}

theorem addRows2_lands (wf) (w : Nat) (idx : IVec ⟨2, ![E, 1]⟩ w) (e : Fin E) (c' : Fin C) (n : Fin N) (c : Fin C) :
    (addRows2 N E C wf).resultIdx? (ix2 e c') idx = some (ix2 n c)
      ↔ (idx (ix2 e 0)).toInt = (n.val : Int) ∧ c' = c := by
  rw [resultIdx_eq_some]
  have h0 : (addRows2 N E C wf).start (ix2 e c') idx 0 = (idx (ix2 e 0)).toInt := by
    unfold ScatterDims.start
    rw [dif_pos (show (0 : Fin 2) ∈ [(0 : Fin 2)] from List.mem_singleton.mpr rfl)]
    congr 2
    funext b
    match b with
    | ⟨0, _⟩ => rfl
    | ⟨1, _⟩ => rfl
  have h1 : (addRows2 N E C wf).start (ix2 e c') idx 1 = 0 := by
    unfold ScatterDims.start
    rw [dif_neg (show ¬ (1 : Fin 2) ∈ [(0 : Fin 2)] by decide)]
  have w0 : (addRows2 N E C wf).window (ix2 e c') 0 = 0 := by
    unfold ScatterDims.window
    rw [dif_neg (show ¬ (0 : Fin 2) ∈ (Shape.kept ⟨2, ![N, C]⟩ [(0 : Fin 2)]) by simp [Shape.kept])]
  have w1 : (addRows2 N E C wf).window (ix2 e c') 1 = c'.val := rfl
  constructor
  · intro H
    have a0 : _ = (n.val : Int) := H 0
    have a1 : _ = (c.val : Int) := H 1
    rw [h0, w0] at a0
    rw [h1, w1] at a1
    exact ⟨by simpa using a0, Fin.ext (by omega)⟩
  · rintro ⟨h, rfl⟩ a
    match a with
    | ⟨0, _⟩ => show (addRows2 N E C wf).start (ix2 e c') idx 0 + ((addRows2 N E C wf).window (ix2 e c') 0 : Int) = _; rw [h0, w0, h]; simp
    | ⟨1, _⟩ => show (addRows2 N E C wf).start (ix2 e c') idx 1 + ((addRows2 N E C wf).window (ix2 e c') 1 : Int) = _; rw [h1, w1]; simp

/-- Rows added, at an index. -/
theorem addRows2_apply {φ : FTy} (wf) {w : Nat} (x : FVec Ideal ⟨2, ![N, C]⟩ φ) (idx : IVec ⟨2, ![E, 1]⟩ w)
    (upd : FVec Ideal ⟨2, ![E, C]⟩ φ) (n : Fin N) (c : Fin C) :
    Host.scatterAdd (addRows2 N E C wf) x idx upd (ix2 n c)
      = (x (ix2 n c) + ∑ e ∈ Finset.univ.filter (fun e : Fin E => (idx (ix2 e 0)).toInt = (n.val : Int)), upd (ix2 e c) : EReal) := by
  show (x (ix2 n c) + ∑ j ∈ Finset.univ.filter (fun j => (addRows2 N E C wf).resultIdx? j idx = some (ix2 n c)), upd j : EReal) = _
  congr 1
  symm
  refine Finset.sum_bij (fun e _ => ix2 e c) ?_ ?_ ?_ ?_
  · intro e he
    simp only [Finset.mem_filter, Finset.mem_univ, true_and] at he ⊢
    exact (addRows2_lands wf w idx e c n c).2 ⟨he, rfl⟩
  · intro e _ e' _ h
    exact congrFun h 0
  · intro j hj
    simp only [Finset.mem_filter, Finset.mem_univ, true_and] at hj
    rw [eq_ix2 j] at hj
    obtain ⟨h, h'⟩ := (addRows2_lands wf w idx (j 0) (j 1) n c).1 hj
    refine ⟨j 0, Finset.mem_filter.2 ⟨Finset.mem_univ _, h⟩, ?_⟩
    rw [← h']
    exact (eq_ix2 j).symm
  · intro e _
    rfl

/-- Rows taken, at an index: the row at the index, read signed and clamped. -/
theorem takeRows2_apply {α : Type} (hN : 0 < N) (wf) {w : Nat} (x : (⟨2, ![N, C]⟩ : Shape).Idx → α) (idx : IVec ⟨2, ![E, 1]⟩ w)
    (e : Fin E) (c : Fin C) :
    Host.gather (takeRows2 N E C wf) x idx (ix2 e c)
      = x (ix2 ⟨min (idx (ix2 e 0)).toInt.toNat (N - 1), by omega⟩ c) := by
  unfold Host.gather
  congr 1
  funext a
  refine Fin.ext ?_
  show (takeRows2 N E C wf).start (ix2 e c) idx a + (takeRows2 N E C wf).batchCoord (ix2 e c) a
    + (takeRows2 N E C wf).offCoord (ix2 e c) a = _
  rw [GatherDims.batchCoord_eq_zero _ _ _ List.not_mem_nil]
  match a with
  | ⟨0, h⟩ =>
    rw [GatherDims.offCoord_eq_zero _ _ _ (fun h => ((GatherDims.mem_sKept _ _).mp h).1 (List.mem_singleton.mpr rfl))]
    unfold GatherDims.start
    rw [dif_pos (show (⟨0, h⟩ : Fin 2) ∈ [(0 : Fin 2)] from List.mem_singleton.mpr rfl)]
    have hsi : (takeRows2 N E C wf).siIdx (ix2 e c) ⟨List.idxOf (⟨0, h⟩ : Fin 2) [(0 : Fin 2)],
        List.idxOf_lt_length_iff.2 (List.mem_singleton.mpr rfl)⟩ = ix2 e 0 := by
      funext b
      match b with
      | ⟨0, _⟩ => rfl
      | ⟨1, _⟩ => rfl
    show min (idx ((takeRows2 N E C wf).siIdx (ix2 e c) ⟨List.idxOf (⟨0, h⟩ : Fin 2) [(0 : Fin 2)], _⟩)).toInt.toNat _ + 0 + 0 = _
    rw [hsi]
    rfl
  | ⟨1, h⟩ =>
    unfold GatherDims.start
    rw [dif_neg (show ¬ (⟨1, h⟩ : Fin 2) ∈ [(0 : Fin 2)] by simp)]
    show 0 + 0 + c.val = c.val
    omega

end Two

section Three
variable (N E H F : Nat)

/-- Slabs of an `[N, H, F]` array added by one index each. -/
abbrev addRows3 (wf : ScatterDims.WF ⟨3, ![N, H, F]⟩ ⟨2, ![E, 1]⟩ ⟨3, ![E, H, F]⟩ [1, 2] [0] [0] 1) :
    ScatterDims ⟨3, ![N, H, F]⟩ ⟨2, ![E, 1]⟩ ⟨3, ![E, H, F]⟩ where
  updateWindowDims := [1, 2]
  insertedWindowDims := [0]
  scatterDimsToOperandDims := [0]
  indexVectorDim := 1
  wf := wf

/-- Slabs of an `[N, H, F]` array taken by one index each. -/
abbrev takeRows3 (wf : GatherDims.WF ⟨3, ![N, H, F]⟩ ⟨2, ![E, 1]⟩ ⟨3, ![E, H, F]⟩ [1, 2] [0] [] [0] [] 1 ![1, H, F]) :
    GatherDims ⟨3, ![N, H, F]⟩ ⟨2, ![E, 1]⟩ ⟨3, ![E, H, F]⟩ where
  offsetDims := [1, 2]
  collapsedSliceDims := [0]
  operandBatchingDims := []
  startIndicesBatchingDims := []
  startIndexMap := [0]
  indexVectorDim := 1
  sliceSizes := ![1, H, F]
  wf := wf

variable {N E H F}

theorem addRows3_lands (wf) (w : Nat) (idx : IVec ⟨2, ![E, 1]⟩ w) (e : Fin E) (h' : Fin H) (f' : Fin F) (n : Fin N)
    (h : Fin H) (f : Fin F) :
    (addRows3 N E H F wf).resultIdx? (ix3 e h' f') idx = some (ix3 n h f)
      ↔ (idx (ix2 e 0)).toInt = (n.val : Int) ∧ h' = h ∧ f' = f := by
  rw [resultIdx_eq_some]
  have h0 : (addRows3 N E H F wf).start (ix3 e h' f') idx 0 = (idx (ix2 e 0)).toInt := by
    unfold ScatterDims.start
    rw [dif_pos (show (0 : Fin 3) ∈ [(0 : Fin 3)] from List.mem_singleton.mpr rfl)]
    congr 2
    funext b
    match b with
    | ⟨0, _⟩ => rfl
    | ⟨1, _⟩ => rfl
  have h1 : (addRows3 N E H F wf).start (ix3 e h' f') idx 1 = 0 := by
    unfold ScatterDims.start
    rw [dif_neg (show ¬ (1 : Fin 3) ∈ [(0 : Fin 3)] by decide)]
  have h2 : (addRows3 N E H F wf).start (ix3 e h' f') idx 2 = 0 := by
    unfold ScatterDims.start
    rw [dif_neg (show ¬ (2 : Fin 3) ∈ [(0 : Fin 3)] by decide)]
  have w0 : (addRows3 N E H F wf).window (ix3 e h' f') 0 = 0 := by
    unfold ScatterDims.window
    rw [dif_neg (show ¬ (0 : Fin 3) ∈ (Shape.kept ⟨3, ![N, H, F]⟩ [(0 : Fin 3)]) by simp [Shape.kept])]
  have w1 : (addRows3 N E H F wf).window (ix3 e h' f') 1 = h'.val := rfl
  have w2 : (addRows3 N E H F wf).window (ix3 e h' f') 2 = f'.val := rfl
  constructor
  · intro G
    have a0 : _ = (n.val : Int) := G 0
    have a1 : _ = (h.val : Int) := G 1
    have a2 : _ = (f.val : Int) := G 2
    rw [h0, w0] at a0
    rw [h1, w1] at a1
    rw [h2, w2] at a2
    exact ⟨by simpa using a0, Fin.ext (by omega), Fin.ext (by omega)⟩
  · rintro ⟨hn, rfl, rfl⟩ a
    match a with
    | ⟨0, _⟩ => show (addRows3 N E H F wf).start (ix3 e h' f') idx 0 + ((addRows3 N E H F wf).window (ix3 e h' f') 0 : Int) = _; rw [h0, w0, hn]; simp
    | ⟨1, _⟩ => show (addRows3 N E H F wf).start (ix3 e h' f') idx 1 + ((addRows3 N E H F wf).window (ix3 e h' f') 1 : Int) = _; rw [h1, w1]; simp
    | ⟨2, _⟩ => show (addRows3 N E H F wf).start (ix3 e h' f') idx 2 + ((addRows3 N E H F wf).window (ix3 e h' f') 2 : Int) = _; rw [h2, w2]; simp

/-- Slabs added, at an index. -/
theorem addRows3_apply {φ : FTy} (wf) {w : Nat} (x : FVec Ideal ⟨3, ![N, H, F]⟩ φ) (idx : IVec ⟨2, ![E, 1]⟩ w)
    (upd : FVec Ideal ⟨3, ![E, H, F]⟩ φ) (n : Fin N) (h : Fin H) (f : Fin F) :
    Host.scatterAdd (addRows3 N E H F wf) x idx upd (ix3 n h f)
      = (x (ix3 n h f) + ∑ e ∈ Finset.univ.filter (fun e : Fin E => (idx (ix2 e 0)).toInt = (n.val : Int)), upd (ix3 e h f) : EReal) := by
  show (x (ix3 n h f) + ∑ j ∈ Finset.univ.filter (fun j => (addRows3 N E H F wf).resultIdx? j idx = some (ix3 n h f)), upd j : EReal) = _
  congr 1
  symm
  refine Finset.sum_bij (fun e _ => ix3 e h f) ?_ ?_ ?_ ?_
  · intro e he
    simp only [Finset.mem_filter, Finset.mem_univ, true_and] at he ⊢
    exact (addRows3_lands wf w idx e h f n h f).2 ⟨he, rfl, rfl⟩
  · intro e _ e' _ h
    exact congrFun h 0
  · intro j hj
    simp only [Finset.mem_filter, Finset.mem_univ, true_and] at hj
    rw [eq_ix3 j] at hj
    obtain ⟨a, b, c⟩ := (addRows3_lands wf w idx (j 0) (j 1) (j 2) n h f).1 hj
    refine ⟨j 0, Finset.mem_filter.2 ⟨Finset.mem_univ _, a⟩, ?_⟩
    rw [← b, ← c]
    exact (eq_ix3 j).symm
  · intro e _
    rfl

/-- Slabs taken, at an index: the slab at the index, read signed and clamped. -/
theorem takeRows3_apply {α : Type} (hN : 0 < N) (wf) {w : Nat} (x : (⟨3, ![N, H, F]⟩ : Shape).Idx → α) (idx : IVec ⟨2, ![E, 1]⟩ w)
    (e : Fin E) (h : Fin H) (f : Fin F) :
    Host.gather (takeRows3 N E H F wf) x idx (ix3 e h f)
      = x (ix3 ⟨min (idx (ix2 e 0)).toInt.toNat (N - 1), by omega⟩ h f) := by
  unfold Host.gather
  congr 1
  funext a
  refine Fin.ext ?_
  show (takeRows3 N E H F wf).start (ix3 e h f) idx a + (takeRows3 N E H F wf).batchCoord (ix3 e h f) a
    + (takeRows3 N E H F wf).offCoord (ix3 e h f) a = _
  rw [GatherDims.batchCoord_eq_zero _ _ _ List.not_mem_nil]
  match a with
  | ⟨0, p⟩ =>
    rw [GatherDims.offCoord_eq_zero _ _ _ (fun h => ((GatherDims.mem_sKept _ _).mp h).1 (List.mem_singleton.mpr rfl))]
    unfold GatherDims.start
    rw [dif_pos (show (⟨0, p⟩ : Fin 3) ∈ [(0 : Fin 3)] from List.mem_singleton.mpr rfl)]
    have hsi : (takeRows3 N E H F wf).siIdx (ix3 e h f) ⟨List.idxOf (⟨0, p⟩ : Fin 3) [(0 : Fin 3)],
        List.idxOf_lt_length_iff.2 (List.mem_singleton.mpr rfl)⟩ = ix2 e 0 := by
      funext b
      match b with
      | ⟨0, _⟩ => rfl
      | ⟨1, _⟩ => rfl
    show min (idx ((takeRows3 N E H F wf).siIdx (ix3 e h f) ⟨List.idxOf (⟨0, p⟩ : Fin 3) [(0 : Fin 3)], _⟩)).toInt.toNat _ + 0 + 0 = _
    rw [hsi]
    rfl
  | ⟨1, p⟩ =>
    unfold GatherDims.start
    rw [dif_neg (show ¬ (⟨1, p⟩ : Fin 3) ∈ [(0 : Fin 3)] by simp)]
    show 0 + 0 + h.val = h.val
    omega
  | ⟨2, p⟩ =>
    unfold GatherDims.start
    rw [dif_neg (show ¬ (⟨2, p⟩ : Fin 3) ∈ [(0 : Fin 3)] by simp)]
    show 0 + 0 + f.val = f.val
    omega

end Three

end Cert.Rows

end
-- ==== Proof.Readout.lean ====
/- The readout and the dense head: what the kernel computes from the node features is what the reference computes from
   them, when graph g owns the nodes 32 g to 32 g + 31. -/
module

public import proofs.«01_k».proof.Proof.Gen.HeadIdeal.Skeleton
public import proofs.«01_k».proof.Proof.Gen.HeadIdeal
public import proofs.«01_k».proof.Proof.Gen.HeadReferenceIdeal.Read
public import proofs.«01_k».proof.Proof.Rows
public import Idealize.ShloMosaic.Lib.Pointwise

@[expose] public section

noncomputable section

namespace Cert.Readout

open Cert.HeadIdeal Cert.HeadIdeal.Gen Cert.HeadReferenceIdeal.Read Idealize.ShloMosaic

/-- Node `k` of graph `g`. -/
abbrev node (g : Fin 512) (k : Fin 32) : Fin 16384 := ⟨g.val * 32 + k.val, by have := g.isLt; have := k.isLt; omega⟩

/-- Graph `g` owns the nodes `32 g` to `32 g + 31`. -/
def InOrder (ids : IVec ⟨1, ![16384]⟩ 32) : Prop := ∀ g k, ids (ix1 (node g k)) = BitVec.ofNat 32 g.val

theorem toInt_ids {ids : IVec ⟨1, ![16384]⟩ 32} (h : InOrder ids) (n : Fin 16384) :
    (ids (ix1 n)).toInt = ((n.val / 32 : Nat) : Int) := by
  have hn := n.isLt
  have e : n = node ⟨n.val / 32, by omega⟩ ⟨n.val % 32, by omega⟩ := Fin.ext (by simp only []; omega)
  have hh := h ⟨n.val / 32, by omega⟩ ⟨n.val % 32, by omega⟩
  rw [← e] at hh
  rw [hh]
  have h5 : n.val / 32 < 512 := by omega
  show (BitVec.ofNat 32 (n.val / 32)).toInt = _
  rw [BitVec.toInt_eq_toNat_of_lt] <;> rw [BitVec.toNat_ofNat] <;> omega

/-- The nodes a graph owns, by number. -/
theorem owned (g : Fin 512) :
    (Finset.univ.filter fun n : Fin 16384 => n.val / 32 = g.val) = Finset.univ.image (node g) := by
  ext n
  simp only [Finset.mem_filter, Finset.mem_univ, true_and, Finset.mem_image]
  constructor
  · intro h
    exact ⟨⟨n.val % 32, by omega⟩, Fin.ext (by simp only []; omega)⟩
  · rintro ⟨k, rfl⟩
    have := k.isLt
    simp only []
    omega

theorem node_inj (g : Fin 512) : Function.Injective (node g) := by
  intro k k' h
  have := congrArg Fin.val h
  simp only [] at this
  exact Fin.ext (by omega)

/-- A product into zeros is the host's product. -/
theorem matmul_zero {sl sr so : Shape} (d : DotDims sl sr so) (a : FVec Ideal sl .f32) (b : FVec Ideal sr .f32) :
    matmul d none a b (constant so .f32 0x00000000#32) = Host.dotGeneral d none a b := by
  funext j
  exact (Ideal.matmul_constant_zero_apply d none a b j).trans (Ideal.dotGeneral_apply d none .single a b j).symm

variable (h2 : FVec Ideal S16384x128 .f32) (ids : IVec ⟨1, ![16384]⟩ 32) (aW : FVec Ideal S128x1 .f32) (ab : FVec Ideal S1 .f32)

/-- The kernel's gate of each node. -/
abbrev gate : FVec Ideal S16384x1 .f32 :=
  logistic (addf (matmul dot_S16384x128_S128x1_S16384x1_1_0_0_1_n_n none h2 aW (constant S16384x1 .f32 0x00000000#32))
    (broadcast S16384x1 (extractAt ![0, 0] (shapeCast S1x1 ab shapeCasts_S1_S1x1) inpos_S1x1_p0_0)))

theorem gate_eq : gate h2 aW ab = val_main_v9 (F := Ideal) h2 aW ab := by
  unfold gate
  rw [matmul_zero]
  funext i
  rw [val_main_v9_apply, val_main_v8_apply, val_main_v7_apply, val_main_v5_apply, val_main_v4_apply, val_main_v3_apply, val_main_v6_apply,
    val_main_v2_apply, val_main_v1_apply, val_main_cst_0_apply, val_main_cst_apply]
  show Ideal.div 1 (1 + Ideal.exp (-(_ + extractAt ![0, 0] (shapeCast S1x1 ab shapeCasts_S1_S1x1) inpos_S1x1_p0_0))) = Ideal.div (Ideal.ofBits .f32 0x3F800000#32) (Ideal.ofBits .f32 0x3F800000#32 + Ideal.exp (-(_ + _)))
  have one : Ideal.ofBits .f32 0x3F800000#32 = 1 := by
    simp [Ideal.ofBits, Ideal.ieee]
    rw [← EReal.coe_mul]
    norm_num
  rw [one]
  have e : extractAt ![0, 0] (shapeCast S1x1 ab shapeCasts_S1_S1x1) inpos_S1x1_p0_0 = ab (idx_main_v1 (idx_main_v2 i)) := by
    pointwise
    refine congrArg ab (funext fun a => ?_)
    fin_cases a
    rfl
  rw [e]
  rfl

/-- A sum over the nodes a graph owns. -/
theorem sum_owned {ids : IVec ⟨1, ![16384]⟩ 32} (hids : InOrder ids) (g : Fin 512) (f : Fin 16384 → EReal) :
    ∑ n ∈ Finset.univ.filter (fun n => (ids (ix1 n)).toInt = (g.val : Int)), f n = ∑ k, f (node g k) := by
  have : (Finset.univ.filter fun n => (ids (ix1 n)).toInt = (g.val : Int)) = Finset.univ.image (node g) := by
    rw [← owned g]
    refine Finset.filter_congr fun n _ => ?_
    rw [toInt_ids hids n]
    exact Int.ofNat_inj
  rw [this, Finset.sum_image (fun a _ b _ h => node_inj g h)]

theorem hsum_eq (hids : InOrder ids) :
    multiReduction .add [1] S512x128 (mulf (shapeCast S512x32x128 h2 shapeCasts_S16384x128_S512x32x128)
      (broadcastTo S512x32x128 (shapeCast S512x32x1 (gate h2 aW ab) shapeCasts_S16384x1_S512x32x1) broadcasts_S512x32x1_S512x32x128))
      0x00000000#32 reduces_S512x32x128_S512x128 (.inl rfl) rfl
    = val_main_v14 (F := Ideal) h2 ids aW ab := by
  rw [gate_eq]
  funext i
  obtain ⟨g, c, rfl⟩ : ∃ g c, i = ix2 g c := ⟨i 0, i 1, eq_ix2 i⟩
  refine Eq.trans ?_ (Rows.addRows2_apply _ _ _ _ g c).symm
  pointwise
  rw [val_main_v12_apply, val_main_cst_1_apply]
  have e : ∀ n : Fin 16384, val_main_v13 (F := Ideal) ids (ix2 n 0) = ids (ix1 n) := by
    intro n
    rw [val_main_v13_apply]
    exact congrArg ids (eq_ix1 _)
  simp only [e]
  rw [sum_owned hids g (fun n => val_main_v11 (F := Ideal) h2 aW ab (ix2 n c))]
  rw [show FloatOps.ofBits (F := Ideal) .f32 0x00000000#32 = (0 : EReal) from Ideal.ofBits_zero_f32, zero_add]
  refine Finset.sum_congr rfl fun k _ => ?_
  rw [val_main_v11_apply, val_main_v10_apply]
  refine congrArg₂ (· * ·) rfl (congrArg _ ?_)
  funext a
  fin_cases a <;> rfl

theorem hmax_eq (hids : InOrder ids) :
    multiReduction .maximumf [1] S512x128 (shapeCast S512x32x128 h2 shapeCasts_S16384x128_S512x32x128)
      0xFF800000#32 reduces_S512x32x128_S512x128 (.inl rfl) rfl
    = val_main_v23 (F := Ideal) h2 ids := by
  funext i
  obtain ⟨g, c, rfl⟩ : ∃ g c, i = ix2 g c := ⟨i 0, i 1, eq_ix2 i⟩
  refine (Ideal.multiReduction_maximumf_single _ _ _ _ _ _).trans ?_
  unfold val_main_v23
  refine Eq.trans ?_ (Host.reduce_eq_fold_single _ _ _ _ (by decide) _ _).symm
  have bot : Ideal.ofBits .f32 0xFF800000#32 = (⊥ : EReal) := by
    simp [Ideal.ofBits, Ideal.ieee]
  have lhs : ∀ k : Fin 32, (shapeCast S512x32x128 h2 shapeCasts_S16384x128_S512x32x128 ∘ reduces_S512x32x128_S512x128.lift (ix2 g c)) k
      = h2 (ix2 (node g k) c) := by
    intro k
    have : reduces_S512x32x128_S512x128.lift (ix2 g c) k = ix3 g k c := by
      refine (eq_ix3 _).trans ?_
      rfl
    show shapeCast S512x32x128 h2 shapeCasts_S16384x128_S512x32x128 (reduces_S512x32x128_S512x128.lift (ix2 g c) k) = _
    rw [this]
    pointwise
  have rhs : ∀ n : Fin 16384, val_main_v22 (F := Ideal) h2 ids (ix3 g n c)
      = if ids (ix1 n) = BitVec.ofNat 32 g.val then h2 (ix2 n c) else ⊥ := by
    intro n
    rw [val_main_v22_apply, val_main_call0_v1_apply, val_main_call0_v2_apply, val_main_call0_v3_apply, val_main_v20_apply,
      val_main_v18_apply, val_main_v15_apply, val_main_v19_apply, val_main_v17_apply, val_main_v16_apply, val_main_v21_apply]
    have e1 : idx_main_v15 (idx_main_v18 (idx_main_call0_v1 (ix3 g n c))) = ix1 n := by
      funext a
      fin_cases a
      rfl
    have e2 : idx_main_v21 (idx_main_call0_v2 (ix3 g n c)) = ix2 n c := by
      funext a
      fin_cases a <;> rfl
    rw [e1, e2]
    show Scalar.select (BitVec.ofBool (ids (ix1 n) == BitVec.ofNat 32 g.val)) (h2 (ix2 n c)) (Ideal.ofBits .f32 0xFF800000#32) = _
    rw [bot]
    by_cases h : ids (ix1 n) = BitVec.ofNat 32 g.val
    · rw [if_pos h, h, beq_self_eq_true]
      rfl
    · rw [if_neg h, beq_eq_false_iff_ne.mpr h]
      rfl
  have rlift : ∀ n : Fin 16384, val_main_v22 (F := Ideal) h2 ids
        (Shape.Reduces.lift (s := HeadReferenceIdeal.S512x16384x128) (t := S512x128) (a := 1) (by decide) (ix2 g c) n)
      = if ids (ix1 n) = BitVec.ofNat 32 g.val then h2 (ix2 n c) else ⊥ := by
    intro n
    refine Eq.trans (congrArg (val_main_v22 (F := Ideal) h2 ids) ?_) (rhs n)
    funext a
    fin_cases a <;> rfl
  have negInf : FloatOps.ofBits (F := Ideal) .f32 0xFF800000#32 = (⊥ : EReal) := bot
  refine le_antisymm (Finset.fold_max_le _ |>.mpr ⟨?_, fun k _ => ?_⟩) (Finset.fold_max_le _ |>.mpr ⟨?_, fun n _ => ?_⟩)
  · rw [negInf]
    exact bot_le
  · refine Finset.le_fold_max _ |>.mpr (.inr ⟨node g k, Finset.mem_univ _, ?_⟩)
    refine le_of_eq ((lhs k).trans ?_)
    refine Eq.trans ?_ (rlift (node g k)).symm
    rw [if_pos (hids g k)]
  · exact negInf.trans_le bot_le
  · refine (rlift n).trans_le ?_
    split_ifs with h
    · have hn : n = node g ⟨n.val % 32, Nat.mod_lt _ (by decide)⟩ := by
        have h' := toInt_ids hids n
        have h5 := n.isLt
        have h6 : (BitVec.ofNat 32 g.val).toInt = (g.val : Int) := by
          rw [BitVec.toInt_eq_toNat_of_lt] <;> rw [BitVec.toNat_ofNat] <;> omega
        rw [h, h6] at h'
        refine Fin.ext ?_
        show n.val = g.val * 32 + n.val % 32
        omega
      refine Finset.le_fold_max _ |>.mpr (.inr ⟨⟨n.val % 32, Nat.mod_lt _ (by decide)⟩, Finset.mem_univ _, ?_⟩)
      refine le_of_eq (Eq.trans ?_ (lhs _).symm)
      rw [← hn]
    · exact bot_le

/-- A pair of joined columns may be joined to the others in one go. -/
theorem concat_eq (a : FVec Ideal S512x256 .f32) (b c : FVec Ideal S512x128 .f32) (d : FVec Ideal S512x256 .f32)
    (h4 : Shape.Concatenates [S512x256, S512x128, S512x128, S512x256] S512x768 1)
    (h2 : Shape.Concatenates [S512x128, S512x128] S512x256 1)
    (h3 : Shape.Concatenates [S512x256, S512x256, S512x256] S512x768 1) :
    concatenate S512x768 1 [⟨S512x256, a⟩, ⟨S512x128, b⟩, ⟨S512x128, c⟩, ⟨S512x256, d⟩] h4
      = concatenate S512x768 1 [⟨S512x256, a⟩, ⟨S512x256, concatenate S512x256 1 [⟨S512x128, b⟩, ⟨S512x128, c⟩] h2⟩, ⟨S512x256, d⟩] h3 := by
  funext i
  obtain ⟨r, j, rfl⟩ : ∃ r j, i = ix2 r j := ⟨i 0, i 1, eq_ix2 i⟩
  pointwise
  by_cases h : j.val < 256
  · rw [dif_pos h, dif_pos h]
  · rw [dif_neg h, dif_neg h]
    by_cases hb : j.val - 256 < 128
    · rw [dif_pos hb, dif_pos (by omega), dif_pos hb]
    · rw [dif_neg hb]
      by_cases hc : j.val - 256 - 128 < 128
      · rw [dif_pos hc, dif_pos (by omega), dif_neg hb]
      · rw [dif_neg hc, dif_neg (by omega)]
        refine congrArg d (congrArg (ix2 r) (Fin.ext ?_))
        show j.val - 256 - 128 - 128 = j.val - 256 - 256
        omega

theorem bias256 (b : FVec Ideal S256 .f32) :
    broadcastTo S512x256 (shapeCast S1x256 (shapeCast S1x256 b shapeCasts_S256_S1x256) shapeCasts_S1x256_S1x256) broadcasts_S1x256_S512x256
      = val_main_v27 (F := Ideal) b := by
  funext i
  obtain ⟨r, j, rfl⟩ : ∃ r j, i = ix2 r j := ⟨i 0, i 1, eq_ix2 i⟩
  rw [val_main_v27_apply, val_main_v26_apply]
  pointwise
  refine congrArg b (funext fun a => ?_)
  fin_cases a
  rfl

theorem bias1024 (b : FVec Ideal S1024 .f32) :
    broadcastTo S512x1024 (shapeCast S1x1024 (shapeCast S1x1024 b shapeCasts_S1024_S1x1024) shapeCasts_S1x1024_S1x1024) broadcasts_S1x1024_S512x1024
      = val_main_v36 (F := Ideal) b := by
  funext i
  obtain ⟨r, j, rfl⟩ : ∃ r j, i = ix2 r j := ⟨i 0, i 1, eq_ix2 i⟩
  rw [val_main_v36_apply, val_main_v35_apply]
  pointwise
  refine congrArg b (funext fun a => ?_)
  fin_cases a
  rfl

theorem biasOut (b : FVec Ideal S1 .f32) :
    broadcast S512x1 (extractAt ![0, 0] (shapeCast S1x1 b shapeCasts_S1_S1x1) inpos_S1x1_p0_0)
      = val_main_v46 (F := Ideal) b := by
  funext i
  rw [val_main_v46_apply, val_main_v45_apply]
  pointwise
  refine congrArg b (funext fun a => ?_)
  fin_cases a
  rfl

/-- The kernel's gated sum over each graph's block of nodes. -/
abbrev blockSum (h : FVec Ideal S512x32x128 .f32) (x : FVec Ideal S16384x128 .f32) (aW : FVec Ideal S128x1 .f32) (ab : FVec Ideal S1 .f32) :
    FVec Ideal S512x128 .f32 :=
  multiReduction .add [1] S512x128 (mulf h
      (broadcastTo S512x32x128 (shapeCast S512x32x1 (gate x aW ab) shapeCasts_S16384x1_S512x32x1) broadcasts_S512x32x1_S512x32x128))
      0x00000000#32 reduces_S512x32x128_S512x128 (.inl rfl) rfl

/-- The kernel's maximum over each graph's block of nodes. -/
abbrev blockMax (h : FVec Ideal S512x32x128 .f32) : FVec Ideal S512x128 .f32 :=
  multiReduction .maximumf [1] S512x128 h 0xFF800000#32 reduces_S512x32x128_S512x128 (.inl rfl) rfl

/-- A projection with its bias, as the kernel spells it. -/
abbrev proj {k : Nat} (d : DotDims ⟨2, ![512, k]⟩ ⟨2, ![k, 256]⟩ S512x256) (x : FVec Ideal ⟨2, ![512, k]⟩ .f32) (w : FVec Ideal ⟨2, ![k, 256]⟩ .f32)
    (b : FVec Ideal S256 .f32) : FVec Ideal S512x256 .f32 :=
  addf (matmul d none x w (constant S512x256 .f32 0x00000000#32))
    (broadcastTo S512x256 (shapeCast S1x256 (shapeCast S1x256 b shapeCasts_S256_S1x256) shapeCasts_S1x256_S1x256) broadcasts_S1x256_S512x256)

/-- What is read out of one graph's nodes, joined with the two protein projections, and multiplied into the first
    dense layer. -/
theorem pay2_eq (hids : InOrder ids) (target : FVec Ideal S512x1024 .f32) (dist : FVec Ideal S512x10000 .f32)
    (pW : FVec Ideal S1024x256 .f32) (pb : FVec Ideal S256 .f32) (dW : FVec Ideal S10000x256 .f32) (db : FVec Ideal S256 .f32)
    (W1 : FVec Ideal S768x1024 .f32) :
    k0_pay2 (F := Ideal) (shapeCast S512x32x128 h2 shapeCasts_S16384x128_S512x32x128) aW (shapeCast S1x1 ab shapeCasts_S1_S1x1) target pW
        (shapeCast S1x256 pb shapeCasts_S256_S1x256) dist dW (shapeCast S1x256 db shapeCasts_S256_S1x256) W1
      = val_main_v34 (F := Ideal) h2 ids target dist aW ab pW pb dW db W1 := by
  have e1 : shapeCast S512x32x128 (shapeCast S512x32x128 h2 shapeCasts_S16384x128_S512x32x128) shapeCasts_S512x32x128_S512x32x128
      = shapeCast S512x32x128 h2 shapeCasts_S16384x128_S512x32x128 := shapeCast_self _ _
  have e2 : shapeCast S16384x128 (shapeCast S512x32x128 h2 shapeCasts_S16384x128_S512x32x128) shapeCasts_S512x32x128_S16384x128 = h2 := by
    rw [shapeCast_shapeCast]
  have e3 := hsum_eq h2 ids aW ab hids
  have e4 := hmax_eq h2 ids hids
  have eP : proj dot_S512x1024_S1024x256_S512x256_1_0_0_1_n_n target pW pb = val_main_v28 (F := Ideal) target pW pb := by
    unfold proj
    rw [matmul_zero, bias256]
    rfl
  have eD : proj dot_S512x10000_S10000x256_S512x256_1_0_0_1_n_n dist dW db = val_main_v32 (F := Ideal) dist dW db := by
    unfold proj
    rw [matmul_zero, bias256]
    rfl
  refine Eq.trans (b := matmul dot_S512x768_S768x1024_S512x1024_1_0_0_1_n_n none
    (concatenate S512x768 1 [⟨S512x256, proj dot_S512x1024_S1024x256_S512x256_1_0_0_1_n_n target pW pb⟩,
      ⟨S512x128, blockSum (shapeCast S512x32x128 (shapeCast S512x32x128 h2 shapeCasts_S16384x128_S512x32x128) shapeCasts_S512x32x128_S512x32x128)
        (shapeCast S16384x128 (shapeCast S512x32x128 (shapeCast S512x32x128 h2 shapeCasts_S16384x128_S512x32x128) shapeCasts_S512x32x128_S512x32x128)
          shapeCasts_S512x32x128_S16384x128) aW ab⟩,
      ⟨S512x128, blockMax (shapeCast S512x32x128 (shapeCast S512x32x128 h2 shapeCasts_S16384x128_S512x32x128) shapeCasts_S512x32x128_S512x32x128)⟩,
      ⟨S512x256, proj dot_S512x10000_S10000x256_S512x256_1_0_0_1_n_n dist dW db⟩]
      concatenates_S512x256_S512x128_S512x128_S512x256_S512x768_d1) W1 (constant S512x1024 .f32 0x00000000#32)) rfl ?_
  rw [e1, e2, matmul_zero, eP, eD]
  unfold blockSum blockMax
  rw [e3, e4, concat_eq _ _ _ _ _ HeadReferenceIdeal.Gen.concatenates_S512x128_S512x128_S512x256_d1
    HeadReferenceIdeal.Gen.concatenates_S512x256_S512x256_S512x256_S512x768_d1]
  rfl

/-- The dense layers after the first product. -/
theorem pay1_eq (target : FVec Ideal S512x1024 .f32) (dist : FVec Ideal S512x10000 .f32)
    (pW : FVec Ideal S1024x256 .f32) (pb : FVec Ideal S256 .f32) (dW : FVec Ideal S10000x256 .f32) (db : FVec Ideal S256 .f32)
    (W1 : FVec Ideal S768x1024 .f32) (b1 : FVec Ideal S1024 .f32) (W2 : FVec Ideal S1024x256 .f32) (b2 : FVec Ideal S256 .f32)
    (oW : FVec Ideal S256x1 .f32) (ob : FVec Ideal S1 .f32) :
    k0_pay1 (F := Ideal) (val_main_v34 (F := Ideal) h2 ids target dist aW ab pW pb dW db W1) (shapeCast S1x1024 b1 shapeCasts_S1024_S1x1024) W2
        (shapeCast S1x256 b2 shapeCasts_S256_S1x256) oW (shapeCast S1x1 ob shapeCasts_S1_S1x1)
      = val_main_v47 (F := Ideal) h2 ids target dist aW ab pW pb dW db W1 b1 W2 b2 oW ob := by
  unfold k0_pay1
  simp only []
  rw [matmul_zero, matmul_zero, bias256, bias1024, biasOut]
  rfl

end Cert.Readout

end
-- ==== Proof.HeadClaim.lean ====
/- From the node features, the kernel's head and the reference's head end with the same scores. -/
module

public import proofs.«01_k».proof.Defs
public import proofs.«01_k».proof.Proof.HeadRegion
public import proofs.«01_k».proof.Proof.Readout
public import proofs.«01_k».proof.Proof.Gen.HeadReferenceIdeal.Run
public import proofs.«01_k».proof.Proof.Gen.Pre_graphs_in_order
public import Idealize.ShloMosaic.Lib.ReduceAll

@[expose] public section

noncomputable section

namespace Cert.HeadClaim

open Cert.HeadIdeal Cert.HeadIdeal.Gen Idealize.ShloMosaic Idealize.SL.Sem

instance : Subsingleton (Shape.Idx Cert.Pre_graphs_in_order.S_) := ⟨fun _ _ => funext fun a => a.elim0⟩

/-- A comparison of ids, laid out 512 by 32, against the row number, all ones: graph g owns the nodes 32 g to 32 g + 31. -/
theorem inOrder_of_all (ids : IVec ⟨1, ![16384]⟩ 32) (h1 : Shape.ShapeCasts ⟨1, ![16384]⟩ ⟨2, ![512, 32]⟩)
    (init : IVec ⟨0, ![]⟩ 1) (h2 : Shape.ReducesTo ⟨2, ![512, 32]⟩ [0, 1] ⟨0, ![]⟩) (h3 : 0 < (⟨0, ![]⟩ : Shape).numel)
    (e : Host.reduce IntOp.andi (cmpi .eq (shapeCast ⟨2, ![512, 32]⟩ ids h1) (iotaInDim ⟨2, ![512, 32]⟩ 32 0)) init h2 h3 = fun _ => 1#1) :
    Readout.InOrder ids := by
  intro g k
  have h := IntOp.cmpi_eq.mp (Host.reduce_andi_all (t := Cert.Pre_graphs_in_order.S_) _ _ _ _ _ (congrFun e fun a => a.elim0) (ix2 g k))
  rw [shapeCast_apply ids h1 (ix2 g k) (ix1 (Readout.node g k)) (by rw [Shape.rowMajor_val_two, Shape.rowMajor_val_one]; rfl)] at h
  exact h

set_option maxRecDepth 8192 in
/-- What the readout leaves is the reference's last column, read at the kernel's own arguments. -/
theorem value (m : (ℓ : Loc nD τ sig) → Buf (Elt Ideal) ℓ) (c : Dev nD)
    (hids : Readout.InOrder (m ((c.tc : Thread nD τ).loc main_arg1))) :
    Value.reg_main_v7 m c = HeadReferenceIdeal.Read.val_main_v47 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) := by
  rw [Region.region, Region.V_main_v0, Region.V_main_v1, Region.V_main_v2, Region.V_main_v3, Region.V_main_v4, Region.V_main_v5,
    Region.V_main_v6, V_main_arg2, V_main_arg3, V_main_arg4, V_main_arg6, V_main_arg8, V_main_arg10, V_main_arg12, V_main_arg14]
  refine (congrArg (fun x => k0_pay1 x _ _ _ _ _) (Readout.pay2_eq _ _ _ _ hids _ _ _ _ _ _ _)).trans ?_
  exact Readout.pay1_eq _ _ _ _ _ _ _ _ _ _ _ _ _ _ _ _

/-- The claim of the head: the two programs end with the same scores. -/
theorem claim : Cert.algebraic_HeadIdeal_HeadReferenceIdeal_pre_graphs_in_order := by
  intro m g m' g' hpre hargs
  have hids : ∀ c : Dev nD, Readout.InOrder (m ((c.tc : Thread nD τ).loc main_arg1)) := by
    intro c
    have h := hpre c
    unfold Cert.Pre_graphs_in_order.fn at h
    exact inOrder_of_all _ _ _ _ _ h
  refine ⟨_, Value.run m g, (θ_run _ _ _).mono (fun r h c => ?_) (HeadReferenceIdeal.Value.run m' g')⟩
  refine ⟨(h c).1.trans ?_, (h c).2⟩
  obtain ⟨a0, a1, a2, a3, a4, a5, a6, a7, a8, a9, a10, a11, a12, a13, a14, a15⟩ := hargs c
  refine Eq.trans ?_ (congrArg (fun x => shapeCast _ x shapeCasts_S512x1_S512) (value m c (hids c)).symm)
  rw [HeadReferenceIdeal.Read.val_main_v48_eq, a0, a1, a2, a3, a4, a5, a6, a7, a8, a9, a10, a11, a12, a13, a14, a15]
  rfl

end Cert.HeadClaim

end
-- ==== Proof.KernelRegion.lean ====
/- What the kernel leaves in its result, as its payload of the arrays it reads. -/
module

public import proofs.«01_k».proof.Proof.Gen.KernelIdeal.Run
public import Idealize.ShloMosaic.Lib.Pipeline.ValueKit

@[expose] public section

noncomputable section

namespace Cert.KernelIdeal.Region

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Every block is its whole array. -/
theorem index_zero : ∀ (w : Fin cfg0.W) (t : Fin cfg0.N) (a : Fin (cfg0.win w).shape.rank), (cfg0.win w).index t a = 0 := by
  decide +kernel

theorem blk0 (c : Dev nD) (t : Fin cfg0.N) : iblk m c 0 t = V m c main_v124 := by
  exact funext fun y => congrArg (V m c main_v124) (funext fun a => Fin.ext (win0_0.rect_emb_val_of_index_zero t a (index_zero 0 t a) y))

theorem blk1 (c : Dev nD) (t : Fin cfg0.N) : iblk m c 1 t = V m c main_arg3 := by
  exact funext fun y => congrArg (V m c main_arg3) (funext fun a => Fin.ext (win0_1.rect_emb_val_of_index_zero t a (index_zero 1 t a) y))

theorem blk2 (c : Dev nD) (t : Fin cfg0.N) : iblk m c 2 t = V m c main_arg4 := by
  exact funext fun y => congrArg (V m c main_arg4) (funext fun a => Fin.ext (win0_2.rect_emb_val_of_index_zero t a (index_zero 2 t a) y))

theorem blk3 (c : Dev nD) (t : Fin cfg0.N) : iblk m c 3 t = V m c main_arg13 := by
  exact funext fun y => congrArg (V m c main_arg13) (funext fun a => Fin.ext (win0_3.rect_emb_val_of_index_zero t a (index_zero 3 t a) y))

theorem blk4 (c : Dev nD) (t : Fin cfg0.N) : iblk m c 4 t = V m c main_v125 := by
  exact funext fun y => congrArg (V m c main_v125) (funext fun a => Fin.ext (win0_4.rect_emb_val_of_index_zero t a (index_zero 4 t a) y))

theorem blk5 (c : Dev nD) (t : Fin cfg0.N) : iblk m c 5 t = V m c main_arg15 := by
  exact funext fun y => congrArg (V m c main_arg15) (funext fun a => Fin.ext (win0_5.rect_emb_val_of_index_zero t a (index_zero 5 t a) y))

theorem blk6 (c : Dev nD) (t : Fin cfg0.N) : iblk m c 6 t = V m c main_v126 := by
  exact funext fun y => congrArg (V m c main_v126) (funext fun a => Fin.ext (win0_6.rect_emb_val_of_index_zero t a (index_zero 6 t a) y))

theorem blk7 (c : Dev nD) (t : Fin cfg0.N) : iblk m c 7 t = V m c main_arg17 := by
  exact funext fun y => congrArg (V m c main_arg17) (funext fun a => Fin.ext (win0_7.rect_emb_val_of_index_zero t a (index_zero 7 t a) y))

theorem blk8 (c : Dev nD) (t : Fin cfg0.N) : iblk m c 8 t = V m c main_v127 := by
  exact funext fun y => congrArg (V m c main_v127) (funext fun a => Fin.ext (win0_8.rect_emb_val_of_index_zero t a (index_zero 8 t a) y))

theorem blk9 (c : Dev nD) (t : Fin cfg0.N) : iblk m c 9 t = V m c main_arg19 := by
  exact funext fun y => congrArg (V m c main_arg19) (funext fun a => Fin.ext (win0_9.rect_emb_val_of_index_zero t a (index_zero 9 t a) y))

theorem blk10 (c : Dev nD) (t : Fin cfg0.N) : iblk m c 10 t = V m c main_v128 := by
  exact funext fun y => congrArg (V m c main_v128) (funext fun a => Fin.ext (win0_10.rect_emb_val_of_index_zero t a (index_zero 10 t a) y))

theorem blk11 (c : Dev nD) (t : Fin cfg0.N) : iblk m c 11 t = V m c main_arg21 := by
  exact funext fun y => congrArg (V m c main_arg21) (funext fun a => Fin.ext (win0_11.rect_emb_val_of_index_zero t a (index_zero 11 t a) y))

theorem blk12 (c : Dev nD) (t : Fin cfg0.N) : iblk m c 12 t = V m c main_v129 := by
  exact funext fun y => congrArg (V m c main_v129) (funext fun a => Fin.ext (win0_12.rect_emb_val_of_index_zero t a (index_zero 12 t a) y))

theorem blk13 (c : Dev nD) (t : Fin cfg0.N) : iblk m c 13 t = V m c main_arg23 := by
  exact funext fun y => congrArg (V m c main_arg23) (funext fun a => Fin.ext (win0_13.rect_emb_val_of_index_zero t a (index_zero 13 t a) y))

theorem blk14 (c : Dev nD) (t : Fin cfg0.N) : iblk m c 14 t = V m c main_v130 := by
  exact funext fun y => congrArg (V m c main_v130) (funext fun a => Fin.ext (win0_14.rect_emb_val_of_index_zero t a (index_zero 14 t a) y))

set_option maxHeartbeats 2000000 in
/-- The output array after the run. -/
theorem region (c : Dev nD) : Value.reg_main_v131 m c
    = k0_pay1 (k0_pay2 (V m c main_v124) (V m c main_arg13) (V m c main_v125) (V m c main_arg3) (V m c main_arg15) (V m c main_v126)
        (V m c main_arg4) (V m c main_arg17) (V m c main_v127) (V m c main_arg19)) (V m c main_v128) (V m c main_arg21)
        (V m c main_v129) (V m c main_arg23) (V m c main_v130) := by
  refine Pipeline.Dat.arrAt_eq_of_covers (dats m 0 c) 15 _ (by decide +kernel) (fun t hf y => ?_)
  blk_simp
  rw [after0_15]
  frame_out
  rw [blk0, blk1, blk2, blk3, blk4, blk5, blk6, blk7, blk8, blk9, blk10, blk11, blk12, blk13, blk14]
  generalize k0_pay1 (F := F) _ _ _ _ _ _ = P
  exact congrArg P (funext fun a => Fin.ext (win0_15.rect_emb_val_of_index_zero t a (index_zero 15 t a) y)).symm

end Cert.KernelIdeal.Region

end
-- ==== Proof.Softmax.lean ====
/- Attention weights of one node over its incoming edges: shifted by one bound for all nodes or by a number of the node's own, the
   weighted means are the same; and which operations keep a value real. -/
module

public import Idealize.ShloMosaic.PureOps.Ideal.Laws
public import Idealize.ShloMosaic.Lib.Pointwise

@[expose] public section

noncomputable section

namespace Cert.Softmax

open Idealize.ShloMosaic

/-- The value is a real number, neither infinity. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.exp {x : EReal} (hx : IsReal x) : IsReal (Ideal.exp x) := by
  obtain ⟨a, rfl⟩ := hx
  exact ⟨Real.exp a, rfl⟩

theorem IsReal.sum {ι : Type*} (S : Finset ι) {f : ι → EReal} (hf : ∀ i ∈ S, IsReal (f i)) : IsReal (∑ i ∈ S, f i) := by
  classical
  induction S using Finset.induction_on with
  | empty => rw [Finset.sum_empty]; exact isReal_zero
  | insert a S ha ih =>
    rw [Finset.sum_insert ha]
    exact (hf a (Finset.mem_insert_self a S)).add (ih fun i hi => hf i (Finset.mem_insert_of_mem hi))

theorem IsReal.select {x y : EReal} (b : BitVec 1) (hx : IsReal x) (hy : IsReal y) : IsReal (Scalar.select b x y) := by
  unfold Scalar.select
  split
  · exact hx
  · exact hy

theorem isReal_of_abs {x : EReal} (h : max x (-x) < ⊤) : IsReal x := by
  induction x using EReal.rec with
  | bot => simp at h
  | top => simp at h
  | coe r => exact ⟨r, rfl⟩

/-- What is kept where the magnitude is finite and is `y` elsewhere is real. -/
theorem isReal_guard (x : EReal) {y : EReal} (hy : IsReal y) :
    IsReal (Scalar.select (Ideal.cmp .olt (max x (-x)) ⊤) x y) := by
  by_cases h : max x (-x) < ⊤
  · exact IsReal.select _ (isReal_of_abs h) hy
  · have : Ideal.cmp .olt (max x (-x)) ⊤ = 0#1 := by simp only [Ideal.cmp, decide_eq_false h]; rfl
    rw [this]
    exact hy

/-- The sum of reals, read in the extended reals. -/
theorem coe_sum {ι : Type*} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The weighted mean over one node's edges, real. -/
theorem isReal_mean {ι : Type*} (S : Finset ι) {φ e : ι → EReal} (hφ : ∀ i, IsReal (φ i)) (he : ∀ i, IsReal (e i)) {c : EReal}
    (hc : IsReal c) {ε : ℝ} (hε : 0 < ε) :
    IsReal (Ideal.div (0 + ∑ i ∈ S, φ i * Ideal.exp (e i - c)) (0 + ∑ i ∈ S, Ideal.exp (e i - c) + (ε : EReal))) := by
  choose e' he' using he
  obtain ⟨c', rfl⟩ := hc
  have hden : (0 + ∑ i ∈ S, Ideal.exp (e i - c') + (ε : EReal)) = ((∑ i ∈ S, Real.exp (e' i - c') + ε : ℝ) : EReal) := by
    rw [zero_add, EReal.coe_add, ← coe_sum]
    congr 1
    refine Finset.sum_congr rfl fun i _ => ?_
    rw [he' i, ← EReal.coe_sub, Ideal.exp_coe]
  have hpos : 0 < ∑ i ∈ S, Real.exp (e' i - c') + ε := add_pos_of_nonneg_of_pos (Finset.sum_nonneg fun i _ => (Real.exp_pos _).le) hε
  rw [hden, Ideal.div_coe hpos.ne', zero_add]
  refine IsReal.mul (IsReal.sum S fun i _ => (hφ i).mul ?_) (isReal_coe _)
  rw [he' i]
  exact ((isReal_coe _).sub (isReal_coe _)).exp

/-- The weighted mean over one node's edges: every score shifted by the bound `c` and the quotient taken last, or every score
    shifted by the node's own `m`, each weight divided first, the guard `ε` carried from one shift to the other. -/
theorem mean_eq {ι : Type*} (S : Finset ι) {φ e : ι → EReal} (hφ : ∀ i, IsReal (φ i)) (he : ∀ i, IsReal (e i)) {c m : EReal}
    (hc : IsReal c) (hm : IsReal m) {ε : ℝ} (hε : 0 < ε) :
    Ideal.div (0 + ∑ i ∈ S, φ i * Ideal.exp (e i - c)) (0 + ∑ i ∈ S, Ideal.exp (e i - c) + (ε : EReal))
      = 0 + ∑ i ∈ S, φ i * Ideal.div (Ideal.exp (e i - m)) ((0 + ∑ j ∈ S, Ideal.exp (e j - m)) + (ε : EReal) * Ideal.exp (c - m)) := by
  choose f hf using hφ
  choose g hg using he
  obtain ⟨c, rfl⟩ := hc
  obtain ⟨m, rfl⟩ := hm
  have hE : ∀ (t : ℝ) i, Ideal.exp (e i - (t : EReal)) = ((Real.exp (g i - t) : ℝ) : EReal) := fun t i => by
    rw [hg i, ← EReal.coe_sub, Ideal.exp_coe]
  have hK : Ideal.exp ((c : EReal) - (m : EReal)) = ((Real.exp (c - m) : ℝ) : EReal) := by rw [← EReal.coe_sub, Ideal.exp_coe]
  have hs : ∀ i, Real.exp (g i - m) = Real.exp (g i - c) * Real.exp (c - m) := fun i => by
    rw [← Real.exp_add]; congr 1; ring
  have hpos : 0 < ∑ i ∈ S, Real.exp (g i - c) + ε := add_pos_of_nonneg_of_pos (Finset.sum_nonneg fun i _ => (Real.exp_pos _).le) hε
  have hk : 0 < Real.exp (c - m) := Real.exp_pos _
  have hden : ∑ j ∈ S, Real.exp (g j - m) + ε * Real.exp (c - m) = (∑ i ∈ S, Real.exp (g i - c) + ε) * Real.exp (c - m) := by
    rw [add_mul, Finset.sum_mul]
    congr 1
    exact Finset.sum_congr rfl fun i _ => hs i
  simp only [hE, hK, hf, zero_add, coe_sum, ← EReal.coe_mul, ← EReal.coe_add]
  rw [hden, Ideal.div_coe hpos.ne', ← EReal.coe_mul]
  simp only [Ideal.div_coe (mul_pos hpos hk).ne', ← EReal.coe_mul, coe_sum]
  congr 1
  rw [Finset.sum_mul]
  refine Finset.sum_congr rfl fun i _ => ?_
  rw [hs i]
  field_simp

end Cert.Softmax

end
-- ==== Proof.Attention.lean ====
/- One attention layer over the edges, as the kernel adds it up (one shift for all scores, the quotient last) and as the reference does
   (each destination's own shift, each weight divided first): the two agree where every score is real. -/
module

public import proofs.«01_k».proof.Proof.Rows
public import proofs.«01_k».proof.Proof.Softmax
public import Idealize.ShloMosaic.Lib.Pipeline.Value
public import Idealize.ShloMosaic.Lib.IdealHost
public import Idealize.ShloMosaic.Lib.StableHlo.Run

@[expose] public section

noncomputable section

namespace Cert.Attention

open Idealize.ShloMosaic Cert.Rows Cert.Softmax

/-- A single number's shape. -/
abbrev One : Shape := ⟨0, ![]⟩

/-- One entry for each edge. -/
abbrev Edge : Shape := ⟨1, ![49152]⟩

/-- One row of one entry for each edge. -/
abbrev Edge1 : Shape := ⟨2, ![49152, 1]⟩

/-- One entry for each edge and head. -/
abbrev EH (H : Nat) : Shape := ⟨2, ![49152, H]⟩

/-- One entry for each node and head. -/
abbrev NH (H : Nat) : Shape := ⟨2, ![16384, H]⟩

/-- One entry for each edge, head and feature. -/
abbrev EHF (H F : Nat) : Shape := ⟨3, ![49152, H, F]⟩

/-- One entry for each node, head and feature. -/
abbrev NHF (H F : Nat) : Shape := ⟨3, ![16384, H, F]⟩

/-- What the layer's operations ask of the shapes. -/
structure Fits (H F : Nat) : Prop where
  eh : One.BroadcastsInDim (EH H) (![] : Fin 0 → Fin 2)
  nh : One.BroadcastsInDim (NH H) (![] : Fin 0 → Fin 2)
  nhf : One.BroadcastsInDim (NHF H F) (![] : Fin 0 → Fin 3)
  nh1 : One.BroadcastsInDim (NHF H 1) (![] : Fin 0 → Fin 3)
  edge : One.BroadcastsInDim Edge (![] : Fin 0 → Fin 1)
  edge1 : Edge.BroadcastsInDim Edge1 (![0] : Fin 1 → Fin 2)
  eUnit : (EH H).BroadcastsInDim (EHF H 1) (![0, 1] : Fin 2 → Fin 3)
  eFeat : (EHF H 1).BroadcastsInDim (EHF H F) (![0, 1, 2] : Fin 3 → Fin 3)
  nUnit : (NH H).BroadcastsInDim (NHF H 1) (![0, 1] : Fin 2 → Fin 3)
  nFeat : (NHF H 1).BroadcastsInDim (NHF H F) (![0, 1, 2] : Fin 3 → Fin 3)
  take2 : GatherDims.WF (NH H) Edge1 (EH H) [1] [0] [] [0] [] 1 ![1, H]
  take3 : GatherDims.WF (NHF H F) Edge1 (EHF H F) [1, 2] [0] [] [0] [] 1 ![1, H, F]
  add2 : ScatterDims.WF (NH H) Edge1 (EH H) [1] [0] [0] 1
  add3 : ScatterDims.WF (NHF H F) Edge1 (EHF H F) [1, 2] [0] [0] 1
  all : (NH H).ReducesTo [0, 1] One
  pos : 0 < One.numel

variable {H F : Nat} (w : Fits H F)

/-- The rows that a gather takes: a negative index counts from the end. -/
def rows (idx : IVec Edge 32) : IVec Edge1 32 :=
  broadcastInDim Edge1 ![0] w.edge1
    (select (cmpi .slt idx (broadcastInDim Edge ![] w.edge (constantI One 32 0#32)))
      (addi idx (broadcastInDim Edge ![] w.edge (constantI One 32 16384#32))) idx)

/-- The rows that a scatter adds to: the indices themselves. -/
def targets (idx : IVec Edge 32) : IVec Edge1 32 := broadcastInDim Edge1 ![0] w.edge1 idx

/-- The leaky rectifier's sums of the two ends' scores, edge by edge. -/
def score (el er : FVec Ideal (NH H) .f32) (src dst : IVec Edge 32) : FVec Ideal (EH H) .f32 :=
  select (cmpf .oge (addf (Host.gather (takeRows2 16384 49152 H w.take2) el (rows w src)) (Host.gather (takeRows2 16384 49152 H w.take2) er (rows w dst)))
      (broadcastInDim (EH H) ![] w.eh (constant One .f32 0x00000000#32)))
    (addf (Host.gather (takeRows2 16384 49152 H w.take2) el (rows w src)) (Host.gather (takeRows2 16384 49152 H w.take2) er (rows w dst)))
    (mulf (broadcastInDim (EH H) ![] w.eh (id (constant One .f32 0x3E4CCCCD#32)))
      (addf (Host.gather (takeRows2 16384 49152 H w.take2) el (rows w src)) (Host.gather (takeRows2 16384 49152 H w.take2) er (rows w dst))))

/-- The bound on every score: the leaky rectifier of the two maxima's sum. -/
def bound (el er : FVec Ideal (NH H) .f32) : FVec Ideal One .f32 :=
  select (cmpf .oge (addf (Host.reduce FloatOps.maximumf el (constant One .f32 0xFF800000#32) w.all w.pos)
        (Host.reduce FloatOps.maximumf er (constant One .f32 0xFF800000#32) w.all w.pos)) (constant One .f32 0x00000000#32))
    (addf (Host.reduce FloatOps.maximumf el (constant One .f32 0xFF800000#32) w.all w.pos)
      (Host.reduce FloatOps.maximumf er (constant One .f32 0xFF800000#32) w.all w.pos))
    (mulf (id (constant One .f32 0x3E4CCCCD#32))
      (addf (Host.reduce FloatOps.maximumf el (constant One .f32 0xFF800000#32) w.all w.pos)
        (Host.reduce FloatOps.maximumf er (constant One .f32 0xFF800000#32) w.all w.pos)))

/-- An edge's number, spread over the features. -/
def overFeats (x : FVec Ideal (EH H) .f32) : FVec Ideal (EHF H F) .f32 :=
  broadcastInDim (EHF H F) ![0, 1, 2] w.eFeat (broadcastInDim (EHF H 1) ![0, 1] w.eUnit x)

/-- An edge's numbers added up at its destination. -/
def arrive2 (dst : IVec Edge 32) (x : FVec Ideal (EH H) .f32) : FVec Ideal (NH H) .f32 :=
  Host.scatterAdd (addRows2 16384 49152 H w.add2) (broadcastInDim (NH H) ![] w.nh (constant One .f32 0x00000000#32)) (targets w dst) x

/-- An edge's features added up at its destination. -/
def arrive3 (dst : IVec Edge 32) (x : FVec Ideal (EHF H F) .f32) : FVec Ideal (NHF H F) .f32 :=
  Host.scatterAdd (addRows3 16384 49152 H F w.add3) (broadcastInDim (NHF H F) ![] w.nhf (constant One .f32 0x00000000#32)) (targets w dst) x

/-- The source's features, edge by edge. -/
def sent (feat : FVec Ideal (NHF H F) .f32) (src : IVec Edge 32) : FVec Ideal (EHF H F) .f32 :=
  Host.gather (takeRows3 16384 49152 H F w.take3) feat (rows w src)

/-- The layer's weighted means as the kernel adds them up, from any scores and any bound. -/
def late (feat : FVec Ideal (NHF H F) .f32) (e : FVec Ideal (EH H) .f32) (c : FVec Ideal One .f32) (src dst : IVec Edge 32) :
    FVec Ideal (NHF H F) .f32 :=
  Host.divf (arrive3 w dst (mulf (sent w feat src) (overFeats w (Host.exp (subf e (broadcastInDim (EH H) ![] w.eh c))))))
    (broadcastInDim (NHF H F) ![0, 1, 2] w.nFeat
      (addf (broadcastInDim (NHF H 1) ![0, 1] w.nUnit (arrive2 w dst (Host.exp (subf e (broadcastInDim (EH H) ![] w.eh c)))))
        (broadcastInDim (NHF H 1) ![] w.nh1 (constant One .f32 0x3089705F#32))))

/-- The layer's weighted means as the reference adds them up, from any scores, any bound and any shift at each destination. -/
def early (feat : FVec Ideal (NHF H F) .f32) (e : FVec Ideal (EH H) .f32) (c : FVec Ideal One .f32) (top : FVec Ideal (NH H) .f32)
    (src dst : IVec Edge 32) : FVec Ideal (NHF H F) .f32 :=
  arrive3 w dst (mulf (sent w feat src) (overFeats w
    (Host.divf (Host.exp (subf e (Host.gather (takeRows2 16384 49152 H w.take2) top (rows w dst))))
      (addf (Host.gather (takeRows2 16384 49152 H w.take2)
          (arrive2 w dst (Host.exp (subf e (Host.gather (takeRows2 16384 49152 H w.take2) top (rows w dst))))) (rows w dst))
        (Host.gather (takeRows2 16384 49152 H w.take2)
          (mulf (broadcastInDim (NH H) ![] w.nh (constant One .f32 0x3089705F#32))
            (Host.exp (subf (broadcastInDim (NH H) ![] w.nh c) top))) (rows w dst))))))

/-! ## Read at an index -/

/-- The row that a gather takes for an edge. -/
def rowAt (idx : IVec Edge 32) (e : Fin 49152) : Fin 16384 := ⟨min (rows w idx (ix2 e 0)).toInt.toNat (16384 - 1), by omega⟩

theorem targets_apply (idx : IVec Edge 32) (e : Fin 49152) : targets w idx (ix2 e 0) = idx (ix1 e) :=
  broadcastInDim_apply _ _ _ _ (ix1 e) fun a => by match a with | ⟨0, _⟩ => rfl

theorem rows_apply (idx : IVec Edge 32) (e : Fin 49152) :
    rows w idx (ix2 e 0) = Scalar.select (IntOp.cmpi .slt (idx (ix1 e)) 0#32) (idx (ix1 e) + 16384#32) (idx (ix1 e)) := by
  refine (broadcastInDim_apply _ _ _ _ (ix1 e) fun a => by match a with | ⟨0, _⟩ => rfl).trans ?_
  rfl

/-- An index that names a node takes that node's row. -/
theorem rowAt_of_mem (idx : IVec Edge 32) (e : Fin 49152) (n : Fin 16384) (h : (targets w idx (ix2 e 0)).toInt = (n.val : Int)) :
    rowAt w idx e = n := by
  rw [targets_apply] at h
  apply Fin.ext
  have hr : rows w idx (ix2 e 0) = idx (ix1 e) := by
    rw [rows_apply]
    have : IntOp.cmpi .slt (idx (ix1 e)) 0#32 = 0#1 := by
      show BitVec.ofBool _ = _
      have : (idx (ix1 e)).slt 0#32 = false := by
        rw [BitVec.slt_eq_decide, h]
        simp
      exact congrArg BitVec.ofBool this
    rw [this]
    rfl
  show min (rows w idx (ix2 e 0)).toInt.toNat (16384 - 1) = n.val
  rw [hr, h]
  have := n.isLt
  simp only [Int.toNat_natCast]
  omega

theorem take2_apply (x : FVec Ideal (NH H) .f32) (idx : IVec Edge 32) (e : Fin 49152) (h : Fin H) :
    Host.gather (takeRows2 16384 49152 H w.take2) x (rows w idx) (ix2 e h) = x (ix2 (rowAt w idx e) h) :=
  takeRows2_apply (by norm_num) _ _ _ _ _

theorem sent_apply (x : FVec Ideal (NHF H F) .f32) (idx : IVec Edge 32) (e : Fin 49152) (h : Fin H) (f : Fin F) :
    sent w x idx (ix3 e h f) = x (ix3 (rowAt w idx e) h f) :=
  takeRows3_apply (by norm_num) _ _ _ _ _ _

theorem overFeats_apply (x : FVec Ideal (EH H) .f32) (e : Fin 49152) (h : Fin H) (f : Fin F) :
    overFeats w x (ix3 e h f) = x (ix2 e h) := by
  refine (broadcastInDim_apply _ _ _ _ (ix3 e h 0) fun a => ?_).trans ?_
  · match a with
    | ⟨0, _⟩ => rfl
    | ⟨1, _⟩ => show h.val = if H = 1 then 0 else h.val; have := h.isLt; split <;> omega
    | ⟨2, _⟩ => rfl
  · refine broadcastInDim_apply _ _ _ _ (ix2 e h) fun a => ?_
    match a with
    | ⟨0, _⟩ => rfl
    | ⟨1, _⟩ => show h.val = if H = 1 then 0 else h.val; have := h.isLt; split <;> omega

/-- One number spread over an array. -/
theorem spread_apply {α : Type} {t : Shape} {dims : Fin 0 → Fin t.rank} (h : One.BroadcastsInDim t dims) (x : One.Idx → α) (j : t.Idx) :
    broadcastInDim t dims h x j = x ix0 := broadcastInDim_apply _ _ _ _ _ fun a => a.elim0

theorem zero_apply : (constant One .f32 0x00000000#32 : FVec Ideal One .f32) ix0 = (0 : EReal) := Ideal.ofBits_zero_f32

/-- The edges whose destination is the node. -/
def arriving (dst : IVec Edge 32) (n : Fin 16384) : Finset (Fin 49152) :=
  Finset.univ.filter fun e => (targets w dst (ix2 e 0)).toInt = (n.val : Int)

theorem arrive2_apply (dst : IVec Edge 32) (x : FVec Ideal (EH H) .f32) (n : Fin 16384) (h : Fin H) :
    arrive2 w dst x (ix2 n h) = (0 + ∑ e ∈ arriving w dst n, x (ix2 e h) : EReal) := by
  refine (addRows2_apply _ _ _ _ _ _).trans ?_
  congr 1
  exact (spread_apply _ _ _).trans zero_apply

theorem arrive3_apply (dst : IVec Edge 32) (x : FVec Ideal (EHF H F) .f32) (n : Fin 16384) (h : Fin H) (f : Fin F) :
    arrive3 w dst x (ix3 n h f) = (0 + ∑ e ∈ arriving w dst n, x (ix3 e h f) : EReal) := by
  refine (addRows3_apply _ _ _ _ _ _ _).trans ?_
  congr 1
  exact (spread_apply _ _ _).trans zero_apply

/-- The reference's guard and the kernel's: a positive real. -/
theorem guard_pos : ∃ ε : ℝ, 0 < ε ∧ Ideal.ofBits .f32 0x3089705F#32 = (ε : EReal) := by
  refine ⟨_, ?_, by simp [Ideal.ofBits, Ideal.ieee]; rfl⟩
  norm_num

theorem slope_real : IsReal (Ideal.ofBits .f32 0x3E4CCCCD#32) := ⟨_, by simp [Ideal.ofBits, Ideal.ieee]; rfl⟩

theorem bot_eq : Ideal.ofBits .f32 0xFF800000#32 = (⊥ : EReal) := by simp [Ideal.ofBits, Ideal.ieee]

theorem quotient_at {s : Shape} (x y : FVec Ideal s .f32) (j : s.Idx) : Host.divf x y j = Ideal.div (x j) (y j) := rfl

theorem sum_at {s : Shape} (x y : FVec Ideal s .f32) (j : s.Idx) : addf x y j = (x j + y j : EReal) := rfl

theorem product_at {s : Shape} (x y : FVec Ideal s .f32) (j : s.Idx) : mulf x y j = (x j * y j : EReal) := rfl

theorem late_apply (feat : FVec Ideal (NHF H F) .f32) (e : FVec Ideal (EH H) .f32) (c : FVec Ideal One .f32) (src dst : IVec Edge 32)
    (n : Fin 16384) (h : Fin H) (f : Fin F) :
    late w feat e c src dst (ix3 n h f)
      = Ideal.div (0 + ∑ i ∈ arriving w dst n, feat (ix3 (rowAt w src i) h f) * Ideal.exp (e (ix2 i h) - c ix0))
          ((0 + ∑ i ∈ arriving w dst n, Ideal.exp (e (ix2 i h) - c ix0)) + Ideal.ofBits .f32 0x3089705F#32) := by
  have he : ∀ i : Fin 49152, (Host.exp (subf e (broadcastInDim (EH H) ![] w.eh c)) : FVec Ideal (EH H) .f32) (ix2 i h)
      = Ideal.exp (e (ix2 i h) - c ix0) := fun i => by
    show Ideal.exp (e (ix2 i h) - broadcastInDim (EH H) ![] w.eh c (ix2 i h)) = _
    rw [spread_apply]
  refine (quotient_at _ _ _).trans ?_
  rw [arrive3_apply]
  refine congrArg₂ Ideal.div (congrArg (fun x : EReal => 0 + x) ?_) ?_
  · refine Finset.sum_congr rfl fun i _ => ?_
    refine (product_at _ _ _).trans ?_
    rw [sent_apply, overFeats_apply, he]
  · refine (broadcastInDim_apply _ _ _ _ (ix3 n h 0) fun a => ?_).trans ?_
    · match a with
      | ⟨0, _⟩ => rfl
      | ⟨1, _⟩ => show h.val = if H = 1 then 0 else h.val; have := h.isLt; split <;> omega
      | ⟨2, _⟩ => rfl
    · rw [sum_at, spread_apply]
      refine congrArg (fun x : EReal => x + Ideal.ofBits .f32 0x3089705F#32) ?_
      refine (broadcastInDim_apply _ _ _ _ (ix2 n h) fun a => ?_).trans ?_
      · match a with
        | ⟨0, _⟩ => rfl
        | ⟨1, _⟩ => show h.val = if H = 1 then 0 else h.val; have := h.isLt; split <;> omega
      · rw [arrive2_apply]
        refine congrArg (fun x : EReal => 0 + x) ?_
        exact Finset.sum_congr rfl fun i _ => he i

theorem early_apply (feat : FVec Ideal (NHF H F) .f32) (e : FVec Ideal (EH H) .f32) (c : FVec Ideal One .f32) (top : FVec Ideal (NH H) .f32)
    (src dst : IVec Edge 32) (n : Fin 16384) (h : Fin H) (f : Fin F) :
    early w feat e c top src dst (ix3 n h f)
      = (0 + ∑ i ∈ arriving w dst n, feat (ix3 (rowAt w src i) h f) * Ideal.div (Ideal.exp (e (ix2 i h) - top (ix2 n h)))
          ((0 + ∑ j ∈ arriving w dst n, Ideal.exp (e (ix2 j h) - top (ix2 n h)))
            + Ideal.ofBits .f32 0x3089705F#32 * Ideal.exp (c ix0 - top (ix2 n h))) : EReal) := by
  have hrow : ∀ i ∈ arriving w dst n, rowAt w dst i = n := fun i hi => rowAt_of_mem w dst i n (Finset.mem_filter.1 hi).2
  have he : ∀ i ∈ arriving w dst n, (Host.exp (subf e (Host.gather (takeRows2 16384 49152 H w.take2) top (rows w dst))) : FVec Ideal (EH H) .f32) (ix2 i h)
      = Ideal.exp (e (ix2 i h) - top (ix2 n h)) := fun i hi => by
    show Ideal.exp (e (ix2 i h) - Host.gather (takeRows2 16384 49152 H w.take2) top (rows w dst) (ix2 i h)) = _
    rw [take2_apply, hrow i hi]
  refine (arrive3_apply w dst _ n h f).trans ?_
  refine congrArg (fun x : EReal => 0 + x) ?_
  refine Finset.sum_congr rfl fun i hi => ?_
  refine (product_at _ _ _).trans ?_
  rw [sent_apply, overFeats_apply]
  refine congrArg (fun x : EReal => feat (ix3 (rowAt w src i) h f) * x) ?_
  refine (quotient_at _ _ _).trans ?_
  rw [he i hi, sum_at, take2_apply, take2_apply, hrow i hi, arrive2_apply]
  refine congrArg (Ideal.div _) (congrArg₂ (fun x y : EReal => x + y) (congrArg (fun x : EReal => 0 + x) ?_) ?_)
  · exact Finset.sum_congr rfl fun j hj => he j hj
  · show broadcastInDim (NH H) ![] w.nh (constant One .f32 0x3089705F#32 : FVec Ideal One .f32) (ix2 n h)
      * Ideal.exp (broadcastInDim (NH H) ![] w.nh c (ix2 n h) - top (ix2 n h)) = _
    rw [spread_apply, spread_apply]
    rfl

theorem score_real {el er : FVec Ideal (NH H) .f32} (hl : ∀ j, IsReal (el j)) (hr : ∀ j, IsReal (er j)) (src dst : IVec Edge 32)
    (i : Fin 49152) (h : Fin H) : IsReal (score w el er src dst (ix2 i h)) := by
  have hs : IsReal (Host.gather (takeRows2 16384 49152 H w.take2) el (rows w src) (ix2 i h)
      + Host.gather (takeRows2 16384 49152 H w.take2) er (rows w dst) (ix2 i h)) := by
    rw [take2_apply, take2_apply]
    exact (hl _).add (hr _)
  refine IsReal.select _ hs (IsReal.mul ?_ hs)
  rw [spread_apply]
  exact slope_real

/-- The largest of real numbers, one for each node and head, is real. -/
theorem largest_real (hH : 0 < H) {x : FVec Ideal (NH H) .f32} (hx : ∀ j, IsReal (x j)) :
    IsReal (Host.reduce (FloatOps.maximumf (F := Ideal) (φ := .f32)) x (constant One .f32 0xFF800000#32 : FVec Ideal One .f32) w.all w.pos ix0) := by
  have hfold : ∀ S : Finset (NH H).Idx, S.Nonempty → IsReal (S.fold (fun a b : EReal => max a b) ⊥ x) := by
    intro S hS
    induction hS using Finset.Nonempty.cons_induction with
    | singleton a => rw [Finset.fold_singleton]; exact (max_bot_right (x a)).symm ▸ hx a
    | cons a S ha hS ih =>
      rw [Finset.fold_cons]
      rcases max_choice (x a) (S.fold (fun a b : EReal => max a b) ⊥ x) with h | h
      · exact h.symm ▸ hx a
      · exact h.symm ▸ ih
  have : Host.reduce (FloatOps.maximumf (F := Ideal) (φ := .f32)) x (constant One .f32 0xFF800000#32 : FVec Ideal One .f32) w.all w.pos ix0
      = (Finset.univ.filter fun i => w.all.drop i = ix0).fold (fun a b : EReal => max a b) ⊥ x :=
    (Host.reduce_eq_fold (fun a b : EReal => max a b) x _ w.all w.pos ix0).trans (congrArg (fun b => Finset.fold _ b x _) bot_eq)
  rw [this]
  exact hfold _ ⟨ix2 0 ⟨0, hH⟩, Finset.mem_filter.2 ⟨Finset.mem_univ _, funext fun a => a.elim0⟩⟩

theorem bound_real (hH : 0 < H) {el er : FVec Ideal (NH H) .f32} (hl : ∀ j, IsReal (el j)) (hr : ∀ j, IsReal (er j)) :
    IsReal (bound w el er ix0) := by
  have hs := (largest_real w hH hl).add (largest_real w hH hr)
  exact IsReal.select _ hs (slope_real.mul hs)

/-- The kernel's layer and the reference's, from real features, scores, bound and shifts. -/
theorem late_eq_early {feat : FVec Ideal (NHF H F) .f32} {e : FVec Ideal (EH H) .f32} {c : FVec Ideal One .f32} {top : FVec Ideal (NH H) .f32}
    (hf : ∀ j, IsReal (feat j)) (he : ∀ j, IsReal (e j)) (hc : IsReal (c ix0)) (ht : ∀ j, IsReal (top j)) (src dst : IVec Edge 32) :
    late w feat e c src dst = early w feat e c top src dst := by
  funext j
  obtain ⟨n, h, f, rfl⟩ : ∃ n h f, j = ix3 n h f := ⟨j 0, j 1, j 2, eq_ix3 j⟩
  rw [late_apply, early_apply]
  obtain ⟨ε, hε, h⟩ := guard_pos
  rw [h]
  exact mean_eq _ (fun i => hf _) (fun i => he _) hc (ht _) hε

/-- The layer's weighted means are real. -/
theorem late_real {feat : FVec Ideal (NHF H F) .f32} {e : FVec Ideal (EH H) .f32} {c : FVec Ideal One .f32}
    (hf : ∀ j, IsReal (feat j)) (he : ∀ j, IsReal (e j)) (hc : IsReal (c ix0)) (src dst : IVec Edge 32) (j : (NHF H F).Idx) :
    IsReal (late w feat e c src dst j) := by
  obtain ⟨n, h, f, rfl⟩ : ∃ n h f, j = ix3 n h f := ⟨j 0, j 1, j 2, eq_ix3 j⟩
  rw [late_apply]
  obtain ⟨ε, hε, h⟩ := guard_pos
  rw [h]
  exact isReal_mean _ (fun i => hf _) (fun i => he _) hc hε

end Cert.Attention

end
-- ==== Proof.Layers.lean ====
/- The reference's two attention layers as the layer of Attention, and their values real where the layers' inputs are. -/
module

public import proofs.«01_k».proof.Proof.Attention
public import proofs.«01_k».proof.Proof.Gen.ReferenceIdeal.Read

@[expose] public section

noncomputable section

namespace Cert.Layers

open Cert.ReferenceIdeal Cert.ReferenceIdeal.Gen Cert.ReferenceIdeal.Read Idealize.ShloMosaic Cert.Softmax Cert.Attention

theorem fits1 : Fits 10 74 :=
  ⟨Facts₀.bcast_S_S49152x10, Facts₀.bcast_S_S16384x10, Facts₀.bcast_S_S16384x10x74, by decide, Facts₀.bcast_S_S49152, Facts₀.bcast_S49152_S49152x1_0,
    Facts₀.bcast_S49152x10_S49152x10x1_0_1, Facts₀.bcast_S49152x10x1_S49152x10x74_0_1_2, by decide, by decide,
    Facts₀.gather_S16384x10_S49152x1_S49152x10_1_0_n_n_0_1_110_wf, Facts₀.gather_S16384x10x74_S49152x1_S49152x10x74_12_0_n_n_0_1_11074_wf,
    Facts₀.scatter_S16384x10_S49152x1_S49152x10_1_0_0_1_wf, Facts₀.scatter_S16384x10x74_S49152x1_S49152x10x74_12_0_0_1_wf,
    Facts₀.reducesTo_S16384x10_S_d0_1, Facts₀.h_S_⟩

theorem fits2 : Fits 1 128 :=
  ⟨Facts₀.bcast_S_S49152x1, Facts₀.bcast_S_S16384x1, Facts₀.bcast_S_S16384x1x128, by decide, Facts₀.bcast_S_S49152, Facts₀.bcast_S49152_S49152x1_0,
    Facts₀.bcast_S49152x1_S49152x1x1_0_1, Facts₀.bcast_S49152x1x1_S49152x1x128_0_1_2, by decide, by decide,
    Facts₀.gather_S16384x1_S49152x1_S49152x1_1_0_n_n_0_1_11_wf, Facts₀.gather_S16384x1x128_S49152x1_S49152x1x128_12_0_n_n_0_1_11128_wf,
    Facts₀.scatter_S16384x1_S49152x1_S49152x1_1_0_0_1_wf, Facts₀.scatter_S16384x1x128_S49152x1_S49152x1x128_12_0_0_1_wf,
    Facts₀.reducesTo_S16384x1_S_d0_1, Facts₀.h_S_⟩

variable (x0 : (⟨S16384x74, .f32⟩ : BufTy).Contents (Elt Ideal)) (x1 : (⟨S2x49152, .i32⟩ : BufTy).Contents (Elt Ideal))
  (x5 : (⟨S74x740, .f32⟩ : BufTy).Contents (Elt Ideal)) (x6 x7 : (⟨S10x74, .f32⟩ : BufTy).Contents (Elt Ideal))
  (x8 : (⟨S740, .f32⟩ : BufTy).Contents (Elt Ideal)) (x9 : (⟨S740x128, .f32⟩ : BufTy).Contents (Elt Ideal))
  (x10 x11 : (⟨S1x128, .f32⟩ : BufTy).Contents (Elt Ideal))

/-! ## Layer 1 -/

theorem score1 : val_main_v29 x0 x1 x5 x6 x7
    = score fits1 (val_main_v9 x0 x5 x6) (val_main_v13 x0 x5 x7) (val_main_v1 x1) (val_main_v3 x1) := rfl

theorem bound1 : val_main_v58 x0 x5 x6 x7 = bound fits1 (val_main_v9 x0 x5 x6) (val_main_v13 x0 x5 x7) := rfl

theorem means1 : val_main_v92 x0 x1 x5 x6 x7
    = early fits1 (val_main_v5 x0 x5) (val_main_v29 x0 x1 x5 x6 x7) (val_main_v58 x0 x5 x6 x7) (val_main_v42 x0 x1 x5 x6 x7)
        (val_main_v1 x1) (val_main_v3 x1) := rfl

/-! ## Layer 2 -/

theorem score2 : val_main_v123 x0 x1 x5 x6 x7 x8 x9 x10 x11
    = score fits2 (val_main_v103 x0 x1 x5 x6 x7 x8 x9 x10) (val_main_v107 x0 x1 x5 x6 x7 x8 x9 x11) (val_main_v1 x1) (val_main_v3 x1) := rfl

theorem bound2 : val_main_v152 x0 x1 x5 x6 x7 x8 x9 x10 x11
    = bound fits2 (val_main_v103 x0 x1 x5 x6 x7 x8 x9 x10) (val_main_v107 x0 x1 x5 x6 x7 x8 x9 x11) := rfl

theorem means2 : val_main_v186 x0 x1 x5 x6 x7 x8 x9 x10 x11
    = early fits2 (val_main_v99 x0 x1 x5 x6 x7 x8 x9) (val_main_v123 x0 x1 x5 x6 x7 x8 x9 x10 x11) (val_main_v152 x0 x1 x5 x6 x7 x8 x9 x10 x11)
        (val_main_v136 x0 x1 x5 x6 x7 x8 x9 x10 x11) (val_main_v1 x1) (val_main_v3 x1) := rfl

/-! ## Real values -/

/-- A number kept where it is finite, and a real number elsewhere. -/
theorem kept_real {s : Shape} (x t z : FVec Ideal s .f32) (ht : ∀ j, t j = (⊤ : EReal)) (hz : ∀ j, IsReal (z j)) (j : s.Idx) :
    IsReal (select (cmpf .olt (Host.absf x) t) x z j) := by
  have h := isReal_guard (x j) (hz j)
  rw [← ht j] at h
  exact h

theorem top_eq : Ideal.ofBits .f32 0x7F800000#32 = (⊤ : EReal) := by simp [Ideal.ofBits, Ideal.ieee]

theorem zero_real : IsReal (Ideal.ofBits .f32 0x00000000#32) := Ideal.ofBits_zero_f32.symm ▸ isReal_zero

theorem one_real : IsReal (Ideal.ofBits .f32 0x3F800000#32) := ⟨_, by simp [Ideal.ofBits, Ideal.ieee]; rfl⟩

section First
variable {x0 x1 x5 x6 x7 x8 x9 x10 x11}
variable (h0 : ∀ j, IsReal (x0 j)) (h5 : ∀ j, IsReal (x5 j)) (h6 : ∀ j, IsReal (x6 j)) (h7 : ∀ j, IsReal (x7 j)) (h8 : ∀ j, IsReal (x8 j))
  (h9 : ∀ j, IsReal (x9 j)) (h10 : ∀ j, IsReal (x10 j)) (h11 : ∀ j, IsReal (x11 j))
include h0 h5

theorem feat1_real (j) : IsReal (val_main_v5 x0 x5 j) := by
  rw [val_main_v5_apply, val_main_v4_apply]
  exact IsReal.sum _ fun k _ => (h0 _).mul (h5 _)

include h6 in
theorem el1_real (j) : IsReal (val_main_v9 x0 x5 x6 j) := by
  rw [val_main_v9_apply]
  refine IsReal.add zero_real (IsReal.sum _ fun k _ => ?_)
  rw [val_main_v8_apply]
  refine (feat1_real h0 h5 _).mul ?_
  rw [val_main_v7_apply, val_main_v6_apply]
  exact h6 _

include h7 in
theorem er1_real (j) : IsReal (val_main_v13 x0 x5 x7 j) := by
  rw [val_main_v13_apply]
  refine IsReal.add zero_real (IsReal.sum _ fun k _ => ?_)
  rw [val_main_v12_apply]
  refine (feat1_real h0 h5 _).mul ?_
  rw [val_main_v11_apply, val_main_v10_apply]
  exact h7 _

omit h0 h5 in
theorem top1_real (j) : IsReal (val_main_v42 x0 x1 x5 x6 x7 j) := by
  unfold val_main_v42 val_main_v41 val_main_v39
  refine kept_real _ _ _ (fun i => ?_) (fun i => ?_) j
  · rw [val_main_v40_apply]
    exact top_eq
  · rw [val_main_call2_v1_apply]
    exact zero_real

include h6 h7

theorem score1_real (j) : IsReal (val_main_v29 x0 x1 x5 x6 x7 j) := by
  rw [score1]
  obtain ⟨e, h, rfl⟩ : ∃ e h, j = ix2 e h := ⟨j 0, j 1, eq_ix2 j⟩
  exact score_real fits1 (el1_real h0 h5 h6) (er1_real h0 h5 h7) _ _ e h

theorem bound1_real : IsReal (val_main_v58 x0 x5 x6 x7 ix0) := by
  rw [bound1]
  exact bound_real fits1 (by norm_num) (el1_real h0 h5 h6) (er1_real h0 h5 h7)

/-- The kernel's first layer is the reference's. -/
theorem late1 : late fits1 (val_main_v5 x0 x5) (val_main_v29 x0 x1 x5 x6 x7) (val_main_v58 x0 x5 x6 x7) (val_main_v1 x1) (val_main_v3 x1)
    = val_main_v92 x0 x1 x5 x6 x7 :=
  (late_eq_early fits1 (feat1_real h0 h5) (score1_real h0 h5 h6 h7) (bound1_real h0 h5 h6 h7) top1_real _ _).trans (means1 x0 x1 x5 x6 x7).symm

theorem means1_real (j) : IsReal (val_main_v92 x0 x1 x5 x6 x7 j) := by
  rw [← late1 h0 h5 h6 h7]
  exact late_real fits1 (feat1_real h0 h5) (score1_real h0 h5 h6 h7) (bound1_real h0 h5 h6 h7) _ _ j

include h8

theorem hidden1_real (j) : IsReal (val_main_v97 x0 x1 x5 x6 x7 x8 j) := by
  have h : ∀ j, IsReal (val_main_v96 x0 x1 x5 x6 x7 x8 j) := fun j => by
    rw [val_main_v96_apply, val_main_v95_apply]
    refine (means1_real h0 h5 h6 h7 _).add ?_
    rw [val_main_v94_apply, val_main_v93_apply]
    exact h8 _
  rw [val_main_v97_apply, val_main_call4_v7_apply, val_main_call4_v5_apply, val_main_call4_v4_apply, val_main_call4_v6_apply]
  refine IsReal.select _ (h j) (IsReal.mul one_real (IsReal.sub (IsReal.exp ?_) ⟨1, EReal.coe_one.symm⟩))
  refine IsReal.select _ ?_ (h j)
  rw [val_main_call4_call0_v1_apply]
  exact zero_real

include h9

theorem feat2_real (j) : IsReal (val_main_v99 x0 x1 x5 x6 x7 x8 x9 j) := by
  rw [val_main_v99_apply, val_main_v98_apply]
  exact IsReal.sum _ fun k _ => (hidden1_real h0 h5 h6 h7 h8 _).mul (h9 _)

include h10 in
theorem el2_real (j) : IsReal (val_main_v103 x0 x1 x5 x6 x7 x8 x9 x10 j) := by
  rw [val_main_v103_apply]
  refine IsReal.add zero_real (IsReal.sum _ fun k _ => ?_)
  rw [val_main_v102_apply]
  refine (feat2_real h0 h5 h6 h7 h8 h9 _).mul ?_
  rw [val_main_v101_apply, val_main_v100_apply]
  exact h10 _

include h11 in
theorem er2_real (j) : IsReal (val_main_v107 x0 x1 x5 x6 x7 x8 x9 x11 j) := by
  rw [val_main_v107_apply]
  refine IsReal.add zero_real (IsReal.sum _ fun k _ => ?_)
  rw [val_main_v106_apply]
  refine (feat2_real h0 h5 h6 h7 h8 h9 _).mul ?_
  rw [val_main_v105_apply, val_main_v104_apply]
  exact h11 _

omit h0 h5 h6 h7 h8 h9 in
theorem top2_real (j) : IsReal (val_main_v136 x0 x1 x5 x6 x7 x8 x9 x10 x11 j) := by
  unfold val_main_v136 val_main_v135 val_main_v133
  refine kept_real _ _ _ (fun i => ?_) (fun i => ?_) j
  · rw [val_main_v134_apply]
    exact top_eq
  · rw [val_main_call7_v1_apply]
    exact zero_real

include h10 h11

theorem score2_real (j) : IsReal (val_main_v123 x0 x1 x5 x6 x7 x8 x9 x10 x11 j) := by
  rw [score2]
  obtain ⟨e, h, rfl⟩ : ∃ e h, j = ix2 e h := ⟨j 0, j 1, eq_ix2 j⟩
  exact score_real fits2 (el2_real h0 h5 h6 h7 h8 h9 h10) (er2_real h0 h5 h6 h7 h8 h9 h11) _ _ e h

theorem bound2_real : IsReal (val_main_v152 x0 x1 x5 x6 x7 x8 x9 x10 x11 ix0) := by
  rw [bound2]
  exact bound_real fits2 (by norm_num) (el2_real h0 h5 h6 h7 h8 h9 h10) (er2_real h0 h5 h6 h7 h8 h9 h11)

/-- The kernel's second layer is the reference's. -/
theorem late2 : late fits2 (val_main_v99 x0 x1 x5 x6 x7 x8 x9) (val_main_v123 x0 x1 x5 x6 x7 x8 x9 x10 x11)
    (val_main_v152 x0 x1 x5 x6 x7 x8 x9 x10 x11) (val_main_v1 x1) (val_main_v3 x1) = val_main_v186 x0 x1 x5 x6 x7 x8 x9 x10 x11 :=
  (late_eq_early fits2 (feat2_real h0 h5 h6 h7 h8 h9) (score2_real h0 h5 h6 h7 h8 h9 h10 h11) (bound2_real h0 h5 h6 h7 h8 h9 h10 h11)
    top2_real _ _).trans (means2 x0 x1 x5 x6 x7 x8 x9 x10 x11).symm

end First

end Cert.Layers
-- ==== Proof.Prelude.lean ====
/- What the kernel's node layers leave for the head: the reference's node features, from finite inputs. -/
module

public import proofs.«01_k».proof.Proof.Layers
public import proofs.«01_k».proof.Proof.Gen.KernelIdeal.Run
public import Idealize.ShloMosaic.Lib.StableHlo.RunRead

@[expose] public section

noncomputable section

namespace Cert.Prelude

open Cert.KernelIdeal Cert.KernelIdeal.Gen Idealize.ShloMosaic Idealize.ShloMosaic.TcCoe Idealize.SL.Sem Idealize.ShloMosaic.StableHlo
open Cert.Attention Cert.Layers Cert.Softmax
open Cert.ReferenceIdeal.Read (val_main_v1 val_main_v3 val_main_v5 val_main_v29 val_main_v57 val_main_v58 val_main_v92 val_main_v94 val_main_v95 val_main_v96
  val_main_v97 val_main_v99 val_main_v123 val_main_v151 val_main_v152 val_main_v186 val_main_v188 val_main_v192 val_main_v193)

/-- The first layer's features, bound and scores. -/
def scores1 : List (HloOp τ sig (Elt Ideal)) := hostOps0 ++ hostOps0_1 ++ hostOps0_2 ++ hostOps0_3

/-- The second layer's features, bound and scores. -/
def scores2 : List (HloOp τ sig (Elt Ideal)) := hostOps0_6 ++ hostOps0_7 ++ hostOps0_8 ++ hostOps0_9

variable (V : Valuation τ sig (Elt Ideal))

section First
variable {x0 : (⟨S16384x74, .f32⟩ : BufTy).Contents (Elt Ideal)} {x1 : (⟨S2x49152, .i32⟩ : BufTy).Contents (Elt Ideal)}
  {x5 : (⟨S74x740, .f32⟩ : BufTy).Contents (Elt Ideal)} {x6 x7 : (⟨S10x74, .f32⟩ : BufTy).Contents (Elt Ideal)}
  {x8 : (⟨S740, .f32⟩ : BufTy).Contents (Elt Ideal)}

set_option maxRecDepth 8192 in
theorem means1 : after hostOps0_4 V (Proc.devRef .tc main_v61)
    = shapeCast S16384x740 (addf (late fits1 (V (Proc.devRef .tc main_v5)) (V (Proc.devRef .tc main_v33)) (V (Proc.devRef .tc main_v17))
        (V (Proc.devRef .tc main_v1)) (V (Proc.devRef .tc main_v3))) (val_main_v94 (V (Proc.devRef .tc main_arg8))))
        shapeCasts_S16384x10x74_S16384x740 := by
  after_reads_simp
  rfl

theorem src1 (e1 : V (Proc.devRef .tc main_arg1) = x1) : after scores1 V (Proc.devRef .tc main_v1) = val_main_v1 x1 := by
  after_reads_simp
  rw [e1]
  rfl

theorem dst1 (e1 : V (Proc.devRef .tc main_arg1) = x1) : after scores1 V (Proc.devRef .tc main_v3) = val_main_v3 x1 := by
  after_reads_simp
  rw [e1]
  rfl

theorem feat1 (e0 : V (Proc.devRef .tc main_arg0) = x0) (e5 : V (Proc.devRef .tc main_arg5) = x5) :
    after scores1 V (Proc.devRef .tc main_v5) = val_main_v5 x0 x5 := by
  after_reads_simp
  rw [e0, e5]
  rfl

theorem kept1 (r : Ref sig .tc) (hr : r = main_arg8 ∨ r = main_arg9 ∨ r = main_arg10 ∨ r = main_arg11 ∨ r = main_arg12) :
    after scores1 V (Proc.devRef .tc r) = V (Proc.devRef .tc r) := by
  rcases hr with rfl | rfl | rfl | rfl | rfl <;> after_reads_simp

theorem passed1 (r : Ref sig .tc) (hr : r = main_v1 ∨ r = main_v3 ∨ r = main_arg9 ∨ r = main_arg10 ∨ r = main_arg11 ∨ r = main_arg12) :
    after hostOps0_5 (after hostOps0_4 V) (Proc.devRef .tc r) = V (Proc.devRef .tc r) := by
  rcases hr with rfl | rfl | rfl | rfl | rfl | rfl <;> after_reads_simp

theorem maxima1 (e0 : V (Proc.devRef .tc main_arg0) = x0) (e5 : V (Proc.devRef .tc main_arg5) = x5) (e6 : V (Proc.devRef .tc main_arg6) = x6)
    (e7 : V (Proc.devRef .tc main_arg7) = x7) : after hostOps0 V (Proc.devRef .tc main_v16) = val_main_v57 x0 x5 x6 x7 := by
  after_reads_simp
  rw [e0, e5, e6, e7]
  rfl

theorem slope1 : after hostOps0 V (Proc.devRef .tc main_cst_3) = (constant S_ .f32 0x3E4CCCCD#32 : FVec Ideal S_ .f32) := by
  after_reads_simp

theorem leaky1 (e : V (Proc.devRef .tc main_v16) = val_main_v57 x0 x5 x6 x7)
    (s : V (Proc.devRef .tc main_cst_3) = (constant S_ .f32 0x3E4CCCCD#32 : FVec Ideal S_ .f32)) :
    after hostOps0_1 V (Proc.devRef .tc main_v17) = val_main_v58 x0 x5 x6 x7 := by
  simp only [hostOps0_1, TRef.binary, TRef.nullary, TRef.ternary, TRef.unary, TRef.toBuf, TRef.ofBuf, cast_eq]
  after_results_simp
  rw [e, s]
  rfl

theorem bound1 (e0 : V (Proc.devRef .tc main_arg0) = x0) (e5 : V (Proc.devRef .tc main_arg5) = x5) (e6 : V (Proc.devRef .tc main_arg6) = x6)
    (e7 : V (Proc.devRef .tc main_arg7) = x7) : after scores1 V (Proc.devRef .tc main_v17) = val_main_v58 x0 x5 x6 x7 := by
  unfold scores1
  rw [after_append, after_append, after_append]
  have h := leaky1 (after hostOps0 V) (maxima1 V e0 e5 e6 e7) (slope1 V)
  generalize after hostOps0_1 (after hostOps0 V) = W at h ⊢
  after_reads_simp
  exact h

set_option maxRecDepth 8192 in
theorem score1 (e0 : V (Proc.devRef .tc main_arg0) = x0) (e1 : V (Proc.devRef .tc main_arg1) = x1) (e5 : V (Proc.devRef .tc main_arg5) = x5)
    (e6 : V (Proc.devRef .tc main_arg6) = x6) (e7 : V (Proc.devRef .tc main_arg7) = x7) :
    after scores1 V (Proc.devRef .tc main_v33) = val_main_v29 x0 x1 x5 x6 x7 := by
  after_reads_simp
  simp only [TRef.toBuf, TRef.ofBuf, cast_eq]
  rw [e0, e1, e5, e6, e7]
  rfl

/-- The first layer's rectifier. -/
theorem hidden1 (e : V (Proc.devRef .tc main_v61) = val_main_v96 x0 x1 x5 x6 x7 x8) :
    after hostOps0_5 V (Proc.devRef .tc main_v62) = val_main_v97 x0 x1 x5 x6 x7 x8 := by
  after_reads_simp
  simp only [TRef.toBuf, TRef.ofBuf, cast_eq]
  rw [e]
  rfl

end First

/-! ## Layer 2 -/

section Second
variable {x0 : (⟨S16384x74, .f32⟩ : BufTy).Contents (Elt Ideal)} {x1 : (⟨S2x49152, .i32⟩ : BufTy).Contents (Elt Ideal)}
  {x5 : (⟨S74x740, .f32⟩ : BufTy).Contents (Elt Ideal)} {x6 x7 : (⟨S10x74, .f32⟩ : BufTy).Contents (Elt Ideal)}
  {x8 : (⟨S740, .f32⟩ : BufTy).Contents (Elt Ideal)} {x9 : (⟨S740x128, .f32⟩ : BufTy).Contents (Elt Ideal)}
  {x10 x11 : (⟨S1x128, .f32⟩ : BufTy).Contents (Elt Ideal)} {x12 : (⟨S128, .f32⟩ : BufTy).Contents (Elt Ideal)}

set_option maxRecDepth 8192 in
theorem means2 : after hostOps0_10 V (Proc.devRef .tc main_v122)
    = Host.divf (Host.reduceAdd (addf (late fits2 (V (Proc.devRef .tc main_v64)) (V (Proc.devRef .tc main_v92)) (V (Proc.devRef .tc main_v76))
        (V (Proc.devRef .tc main_v1)) (V (Proc.devRef .tc main_v3))) (val_main_v188 (V (Proc.devRef .tc main_arg12))))
        (constant S_ .f32 0x00000000#32) reducesTo_S16384x1x128_S16384x128_d1 h_S_)
      (broadcastInDim S16384x128 ![] bcast_S_S16384x128 (constant S_ .f32 0x3F800000#32)) := by
  after_reads_simp
  rfl

theorem kept2 (r : Ref sig .tc) (hr : r = main_v1 ∨ r = main_v3 ∨ r = main_arg12) :
    after scores2 V (Proc.devRef .tc r) = V (Proc.devRef .tc r) := by
  rcases hr with rfl | rfl | rfl <;> after_reads_simp

theorem feat2 (e62 : V (Proc.devRef .tc main_v62) = val_main_v97 x0 x1 x5 x6 x7 x8) (e9 : V (Proc.devRef .tc main_arg9) = x9) :
    after scores2 V (Proc.devRef .tc main_v64) = val_main_v99 x0 x1 x5 x6 x7 x8 x9 := by
  after_reads_simp
  rw [e62, e9]
  rfl

theorem maxima2 (e62 : V (Proc.devRef .tc main_v62) = val_main_v97 x0 x1 x5 x6 x7 x8) (e9 : V (Proc.devRef .tc main_arg9) = x9)
    (e10 : V (Proc.devRef .tc main_arg10) = x10) (e11 : V (Proc.devRef .tc main_arg11) = x11) :
    after hostOps0_6 V (Proc.devRef .tc main_v75) = val_main_v151 x0 x1 x5 x6 x7 x8 x9 x10 x11 := by
  after_reads_simp
  rw [e62, e9, e10, e11]
  rfl

theorem slope2 : after hostOps0_6 V (Proc.devRef .tc main_cst_17) = (constant S_ .f32 0x3E4CCCCD#32 : FVec Ideal S_ .f32) := by
  after_reads_simp

theorem leaky2 (e : V (Proc.devRef .tc main_v75) = val_main_v151 x0 x1 x5 x6 x7 x8 x9 x10 x11)
    (s : V (Proc.devRef .tc main_cst_17) = (constant S_ .f32 0x3E4CCCCD#32 : FVec Ideal S_ .f32)) :
    after hostOps0_7 V (Proc.devRef .tc main_v76) = val_main_v152 x0 x1 x5 x6 x7 x8 x9 x10 x11 := by
  simp only [hostOps0_7, TRef.binary, TRef.nullary, TRef.ternary, TRef.unary, TRef.toBuf, TRef.ofBuf, cast_eq]
  after_results_simp
  rw [e, s]
  rfl

theorem bound2 (e62 : V (Proc.devRef .tc main_v62) = val_main_v97 x0 x1 x5 x6 x7 x8) (e9 : V (Proc.devRef .tc main_arg9) = x9)
    (e10 : V (Proc.devRef .tc main_arg10) = x10) (e11 : V (Proc.devRef .tc main_arg11) = x11) :
    after scores2 V (Proc.devRef .tc main_v76) = val_main_v152 x0 x1 x5 x6 x7 x8 x9 x10 x11 := by
  unfold scores2
  rw [after_append, after_append, after_append]
  have h := leaky2 (x0 := x0) (x1 := x1) (x5 := x5) (x6 := x6) (x7 := x7) (x8 := x8) (x9 := x9) (x10 := x10) (x11 := x11)
    (after hostOps0_6 V) (maxima2 V e62 e9 e10 e11) (slope2 V)
  generalize after hostOps0_7 (after hostOps0_6 V) = W at h ⊢
  after_reads_simp
  exact h

set_option maxRecDepth 8192 in
theorem score2 (e62 : V (Proc.devRef .tc main_v62) = val_main_v97 x0 x1 x5 x6 x7 x8) (e1 : V (Proc.devRef .tc main_v1) = val_main_v1 x1)
    (e3 : V (Proc.devRef .tc main_v3) = val_main_v3 x1) (e9 : V (Proc.devRef .tc main_arg9) = x9)
    (e10 : V (Proc.devRef .tc main_arg10) = x10) (e11 : V (Proc.devRef .tc main_arg11) = x11) :
    after scores2 V (Proc.devRef .tc main_v92) = val_main_v123 x0 x1 x5 x6 x7 x8 x9 x10 x11 := by
  after_reads_simp
  simp only [TRef.toBuf, TRef.ofBuf, cast_eq]
  rw [e62, e1, e3, e9, e10, e11]
  rfl

/-- The second layer's rectifier. -/
theorem hidden2 (e : V (Proc.devRef .tc main_v122) = val_main_v192 x0 x1 x5 x6 x7 x8 x9 x10 x11 x12) :
    after hostOps0_11 V (Proc.devRef .tc main_v123) = val_main_v193 x0 x1 x5 x6 x7 x8 x9 x10 x11 x12 := by
  after_reads_simp
  simp only [TRef.toBuf, TRef.ofBuf, cast_eq]
  rw [e]
  rfl

end Second

/-! ## The arrays as the launch finds them -/

/-- Every operation before the launch. -/
abbrev line : List (HloOp τ sig (Elt Ideal)) :=
  List.flatten [hostOps0, hostOps0_1, hostOps0_2, hostOps0_3, hostOps0_4, hostOps0_5, hostOps0_6, hostOps0_7, hostOps0_8, hostOps0_9,
    hostOps0_10, hostOps0_11, hostOps0_12]

theorem line_eq : line = scores1 ++ hostOps0_4 ++ hostOps0_5 ++ scores2 ++ hostOps0_10 ++ hostOps0_11 ++ hostOps0_12 := by
  simp only [scores1, scores2, List.flatten_cons, List.flatten_nil, List.append_nil, List.append_assoc]

theorem laid_out {h : (⟨S16384x128, .f32⟩ : BufTy).Contents (Elt Ideal)} (e : V (Proc.devRef .tc main_v123) = h) :
    after hostOps0_12 V (Proc.devRef .tc main_v124) = shapeCast S512x32x128 h shapeCasts_S16384x128_S512x32x128 := by
  after_reads_simp
  rw [e]
  rfl

/-- The node features that the head reads. -/
theorem nodes (h0 : ∀ j, IsReal (V (Proc.devRef .tc main_arg0) j)) (h5 : ∀ j, IsReal (V (Proc.devRef .tc main_arg5) j))
    (h6 : ∀ j, IsReal (V (Proc.devRef .tc main_arg6) j)) (h7 : ∀ j, IsReal (V (Proc.devRef .tc main_arg7) j))
    (h8 : ∀ j, IsReal (V (Proc.devRef .tc main_arg8) j)) (h9 : ∀ j, IsReal (V (Proc.devRef .tc main_arg9) j))
    (h10 : ∀ j, IsReal (V (Proc.devRef .tc main_arg10) j)) (h11 : ∀ j, IsReal (V (Proc.devRef .tc main_arg11) j)) :
    after line V (Proc.devRef .tc main_v124)
      = shapeCast S512x32x128 (val_main_v193 (V (Proc.devRef .tc main_arg0)) (V (Proc.devRef .tc main_arg1)) (V (Proc.devRef .tc main_arg5))
          (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12))) shapeCasts_S16384x128_S512x32x128 := by
  rw [line_eq, after_append, after_append, after_append, after_append, after_append, after_append]
  generalize e0 : V (Proc.devRef .tc main_arg0) = x0 at *
  generalize e1 : V (Proc.devRef .tc main_arg1) = x1 at *
  generalize e5 : V (Proc.devRef .tc main_arg5) = x5 at *
  generalize e6 : V (Proc.devRef .tc main_arg6) = x6 at *
  generalize e7 : V (Proc.devRef .tc main_arg7) = x7 at *
  generalize e8 : V (Proc.devRef .tc main_arg8) = x8 at *
  generalize e9 : V (Proc.devRef .tc main_arg9) = x9 at *
  generalize e10 : V (Proc.devRef .tc main_arg10) = x10 at *
  generalize e11 : V (Proc.devRef .tc main_arg11) = x11 at *
  generalize e12 : V (Proc.devRef .tc main_arg12) = x12 at *
  -- the first layer
  have a61 : after hostOps0_4 (after scores1 V) (Proc.devRef .tc main_v61) = val_main_v96 x0 x1 x5 x6 x7 x8 := by
    rw [means1, feat1 V e0 e5, score1 V e0 e1 e5 e6 e7, bound1 V e0 e5 e6 e7, src1 V e1, dst1 V e1, kept1 V _ (.inl rfl), e8, late1 h0 h5 h6 h7]
    rfl
  have a62 := hidden1 _ a61
  have a1 := (passed1 (after scores1 V) _ (.inl rfl)).trans (src1 V e1)
  have a3 := (passed1 (after scores1 V) _ (.inr (.inl rfl))).trans (dst1 V e1)
  have a9 := (passed1 (after scores1 V) _ (.inr (.inr (.inl rfl)))).trans ((kept1 V _ (.inr (.inl rfl))).trans e9)
  have a10 := (passed1 (after scores1 V) _ (.inr (.inr (.inr (.inl rfl))))).trans ((kept1 V _ (.inr (.inr (.inl rfl)))).trans e10)
  have a11 := (passed1 (after scores1 V) _ (.inr (.inr (.inr (.inr (.inl rfl)))))).trans ((kept1 V _ (.inr (.inr (.inr (.inl rfl))))).trans e11)
  have a12 := (passed1 (after scores1 V) _ (.inr (.inr (.inr (.inr (.inr rfl)))))).trans ((kept1 V _ (.inr (.inr (.inr (.inr rfl))))).trans e12)
  generalize after hostOps0_5 (after hostOps0_4 (after scores1 V)) = W at a62 a1 a3 a9 a10 a11 a12 ⊢
  -- the second layer
  have b122 : after hostOps0_10 (after scores2 W) (Proc.devRef .tc main_v122) = val_main_v192 x0 x1 x5 x6 x7 x8 x9 x10 x11 x12 := by
    rw [means2, feat2 W a62 a9, score2 W a62 a1 a3 a9 a10 a11, bound2 W a62 a9 a10 a11, kept2 W _ (.inl rfl), kept2 W _ (.inr (.inl rfl)),
      kept2 W _ (.inr (.inr rfl)), a1, a3, a12, late2 h0 h5 h6 h7 h8 h9 h10 h11]
    rfl
  have b123 := hidden2 (after hostOps0_10 (after scores2 W)) b122
  exact laid_out (after hostOps0_11 (after hostOps0_10 (after scores2 W))) b123

end Cert.Prelude
-- ==== Proof.KernelReads.lean ====
/- The arrays the kernel's head reads, as functions of the arguments. -/
module

public import proofs.«01_k».proof.Proof.Prelude
public import Idealize.ShloMosaic.Lib.StableHlo.RunRead

@[expose] public section

noncomputable section

namespace Cert.KernelReads

open Cert.KernelIdeal Cert.KernelIdeal.Gen Idealize.ShloMosaic Idealize.ShloMosaic.TcCoe Idealize.SL.Sem Idealize.ShloMosaic.StableHlo
open Cert.Prelude Cert.Softmax

variable (m : (ℓ : Loc nD τ sig) → Buf (Elt Ideal) ℓ)

theorem V_main_v125 (c : Dev nD) : V m c main_v125 = shapeCast S1x1 (m ((c.tc : Thread nD τ).loc main_arg14)) shapeCasts_S1_S1x1 := by
  show after line _ (Proc.devRef .tc main_v125) = _
  rw [line_eq]
  after_reads_simp
  rfl

theorem V_main_v126 (c : Dev nD) : V m c main_v126 = shapeCast S1x256 (m ((c.tc : Thread nD τ).loc main_arg16)) shapeCasts_S256_S1x256 := by
  show after line _ (Proc.devRef .tc main_v126) = _
  rw [line_eq]
  after_reads_simp
  rfl

theorem V_main_v127 (c : Dev nD) : V m c main_v127 = shapeCast S1x256 (m ((c.tc : Thread nD τ).loc main_arg18)) shapeCasts_S256_S1x256 := by
  show after line _ (Proc.devRef .tc main_v127) = _
  rw [line_eq]
  after_reads_simp
  rfl

theorem V_main_v128 (c : Dev nD) : V m c main_v128 = shapeCast S1x1024 (m ((c.tc : Thread nD τ).loc main_arg20)) shapeCasts_S1024_S1x1024 := by
  show after line _ (Proc.devRef .tc main_v128) = _
  rw [line_eq]
  after_reads_simp
  rfl

theorem V_main_v129 (c : Dev nD) : V m c main_v129 = shapeCast S1x256 (m ((c.tc : Thread nD τ).loc main_arg22)) shapeCasts_S256_S1x256 := by
  show after line _ (Proc.devRef .tc main_v129) = _
  rw [line_eq]
  after_reads_simp
  rfl

theorem V_main_v130 (c : Dev nD) : V m c main_v130 = shapeCast S1x1 (m ((c.tc : Thread nD τ).loc main_arg24)) shapeCasts_S1_S1x1 := by
  show after line _ (Proc.devRef .tc main_v130) = _
  rw [line_eq]
  after_reads_simp
  rfl

theorem V_main_v124 (c : Dev nD) (h0 : ∀ j, IsReal ((m ((c.tc : Thread nD τ).loc main_arg0)) j))
    (h5 : ∀ j, IsReal ((m ((c.tc : Thread nD τ).loc main_arg5)) j))
    (h6 : ∀ j, IsReal ((m ((c.tc : Thread nD τ).loc main_arg6)) j))
    (h7 : ∀ j, IsReal ((m ((c.tc : Thread nD τ).loc main_arg7)) j))
    (h8 : ∀ j, IsReal ((m ((c.tc : Thread nD τ).loc main_arg8)) j))
    (h9 : ∀ j, IsReal ((m ((c.tc : Thread nD τ).loc main_arg9)) j))
    (h10 : ∀ j, IsReal ((m ((c.tc : Thread nD τ).loc main_arg10)) j))
    (h11 : ∀ j, IsReal ((m ((c.tc : Thread nD τ).loc main_arg11)) j)) :
    V m c main_v124 = shapeCast S512x32x128 (ReferenceIdeal.Read.val_main_v193 (F := Ideal)
        (m ((c.tc : Thread nD τ).loc main_arg0)) (m ((c.tc : Thread nD τ).loc main_arg1)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12))) shapeCasts_S16384x128_S512x32x128 :=
  nodes (fun b => m (c, b)) h0 h5 h6 h7 h8 h9 h10 h11

end Cert.KernelReads

end
-- ==== Proof.Finite.lean ====
/- What the precondition gives: the graphs in order, and the arrays of the two layers real. -/
module

public import proofs.«01_k».proof.Defs
public import proofs.«01_k».proof.Proof.HeadClaim
public import proofs.«01_k».proof.Proof.Layers
public import proofs.«01_k».proof.Proof.Gen.Pre_layers_finite

@[expose] public section

noncomputable section

namespace Cert.Finite

open Idealize.ShloMosaic Cert.Softmax

theorem ofBool_one : ∀ {b : Bool}, BitVec.ofBool b = 1#1 → b = true := by decide

/-- Every magnitude below infinity: every entry is real. -/
theorem real_of_all {s : Shape} (x : FVec Ideal s .f32) (hb : (⟨0, ![]⟩ : Shape).BroadcastsInDim s (![] : Fin 0 → Fin s.rank))
    (dims : List (Fin s.rank)) (init : IVec ⟨0, ![]⟩ 1) (h2 : s.ReducesTo dims ⟨0, ![]⟩) (h3 : 0 < (⟨0, ![]⟩ : Shape).numel)
    (e : Host.reduce IntOp.andi (cmpf .olt (Host.absf x) (broadcastInDim s ![] hb (constant ⟨0, ![]⟩ .f32 0x7F800000#32))) init h2 h3
      = fun _ => 1#1) (j : s.Idx) : IsReal (x j) := by
  have h := Host.reduce_andi_all (t := Cert.Pre_graphs_in_order.S_) _ _ _ _ _ (congrFun e fun a => a.elim0) j
  refine isReal_of_abs ?_
  rw [← Layers.top_eq]
  exact of_decide_eq_true ((by revert h; exact fun h => ofBool_one h))

theorem both {a b : IVec ⟨0, ![]⟩ 1} (e : andi a b = fun _ => 1#1) : a = (fun _ => 1#1) ∧ b = fun _ => 1#1 :=
  ⟨funext fun i => (IntOp.andi_eq_one.mp (congrFun e i)).1, funext fun i => (IntOp.andi_eq_one.mp (congrFun e i)).2⟩

/-- The nine facts the precondition joins: the graphs in order, and the eight arrays of the layers real. -/
theorem facts_of_pre (x0 : FVec Ideal ⟨2, ![16384, 74]⟩ .f32) (x1 : IVec ⟨2, ![2, 49152]⟩ 32) (x2 : IVec ⟨1, ![16384]⟩ 32)
    (x3 : FVec Ideal ⟨2, ![512, 1024]⟩ .f32) (x4 : FVec Ideal ⟨2, ![512, 10000]⟩ .f32) (x5 : FVec Ideal ⟨2, ![74, 740]⟩ .f32)
    (x6 x7 : FVec Ideal ⟨2, ![10, 74]⟩ .f32) (x8 : FVec Ideal ⟨1, ![740]⟩ .f32) (x9 : FVec Ideal ⟨2, ![740, 128]⟩ .f32)
    (x10 x11 : FVec Ideal ⟨2, ![1, 128]⟩ .f32) (x12 : FVec Ideal ⟨1, ![128]⟩ .f32) (x13 : FVec Ideal ⟨2, ![128, 1]⟩ .f32)
    (x14 : FVec Ideal ⟨1, ![1]⟩ .f32) (x15 : FVec Ideal ⟨2, ![1024, 256]⟩ .f32) (x16 : FVec Ideal ⟨1, ![256]⟩ .f32)
    (x17 : FVec Ideal ⟨2, ![10000, 256]⟩ .f32) (x18 : FVec Ideal ⟨1, ![256]⟩ .f32) (x19 : FVec Ideal ⟨2, ![768, 1024]⟩ .f32)
    (x20 : FVec Ideal ⟨1, ![1024]⟩ .f32) (x21 : FVec Ideal ⟨2, ![1024, 256]⟩ .f32) (x22 : FVec Ideal ⟨1, ![256]⟩ .f32)
    (x23 : FVec Ideal ⟨2, ![256, 1]⟩ .f32) (x24 : FVec Ideal ⟨1, ![1]⟩ .f32)
    (e : Cert.Pre_layers_finite.fn (F := Ideal) x0 x1 x2 x3 x4 x5 x6 x7 x8 x9 x10 x11 x12 x13 x14 x15 x16 x17 x18 x19 x20 x21 x22 x23 x24
      = fun _ => 1#1) :
    Readout.InOrder x2 ∧ (∀ j, IsReal (x0 j)) ∧ (∀ j, IsReal (x5 j)) ∧ (∀ j, IsReal (x6 j)) ∧ (∀ j, IsReal (x7 j))
      ∧ (∀ j, IsReal (x8 j)) ∧ (∀ j, IsReal (x9 j)) ∧ (∀ j, IsReal (x10 j)) ∧ ∀ j, IsReal (x11 j) := by
  unfold Cert.Pre_layers_finite.fn Cert.Pre_layers_finite.fn_part1 Cert.Pre_layers_finite.fn_part2 at e
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e0⟩ := both e
  exact ⟨HeadClaim.inOrder_of_all _ _ _ _ _ e, real_of_all _ _ _ _ _ _ e0, real_of_all _ _ _ _ _ _ e5, real_of_all _ _ _ _ _ _ e6,
    real_of_all _ _ _ _ _ _ e7, real_of_all _ _ _ _ _ _ e8, real_of_all _ _ _ _ _ _ e9, real_of_all _ _ _ _ _ _ e10,
    real_of_all _ _ _ _ _ _ e11⟩

end Cert.Finite

end
-- ==== Proof.Tail.lean ====
/- The head, from the reference's node features, is the reference's own last column. -/
module

public import Idealize.ShloMosaic.PureOps.Ideal.Laws
public import proofs.«01_k».proof.Proof.Gen.HeadReferenceIdeal.Read
public import proofs.«01_k».proof.Proof.Gen.ReferenceIdeal.Read

@[expose] public section

noncomputable section

namespace Cert.Tail

open Cert.ReferenceIdeal Idealize.ShloMosaic

set_option maxRecDepth 8192 in
theorem tail_eq (x0 : (⟨S16384x74, .f32⟩ : BufTy).Contents (Elt Ideal)) (x1 : (⟨S2x49152, .i32⟩ : BufTy).Contents (Elt Ideal))
    (x2 : (⟨S16384, .i32⟩ : BufTy).Contents (Elt Ideal)) (x3 : (⟨S512x1024, .f32⟩ : BufTy).Contents (Elt Ideal))
    (x4 : (⟨S512x10000, .f32⟩ : BufTy).Contents (Elt Ideal)) (x5 : (⟨S74x740, .f32⟩ : BufTy).Contents (Elt Ideal))
    (x6 : (⟨S10x74, .f32⟩ : BufTy).Contents (Elt Ideal)) (x7 : (⟨S10x74, .f32⟩ : BufTy).Contents (Elt Ideal))
    (x8 : (⟨S740, .f32⟩ : BufTy).Contents (Elt Ideal)) (x9 : (⟨S740x128, .f32⟩ : BufTy).Contents (Elt Ideal))
    (x10 : (⟨S1x128, .f32⟩ : BufTy).Contents (Elt Ideal)) (x11 : (⟨S1x128, .f32⟩ : BufTy).Contents (Elt Ideal))
    (x12 : (⟨S128, .f32⟩ : BufTy).Contents (Elt Ideal)) (x13 : (⟨S128x1, .f32⟩ : BufTy).Contents (Elt Ideal))
    (x14 : (⟨S1, .f32⟩ : BufTy).Contents (Elt Ideal)) (x15 : (⟨S1024x256, .f32⟩ : BufTy).Contents (Elt Ideal))
    (x16 : (⟨S256, .f32⟩ : BufTy).Contents (Elt Ideal)) (x17 : (⟨S10000x256, .f32⟩ : BufTy).Contents (Elt Ideal))
    (x18 : (⟨S256, .f32⟩ : BufTy).Contents (Elt Ideal)) (x19 : (⟨S768x1024, .f32⟩ : BufTy).Contents (Elt Ideal))
    (x20 : (⟨S1024, .f32⟩ : BufTy).Contents (Elt Ideal)) (x21 : (⟨S1024x256, .f32⟩ : BufTy).Contents (Elt Ideal))
    (x22 : (⟨S256, .f32⟩ : BufTy).Contents (Elt Ideal)) (x23 : (⟨S256x1, .f32⟩ : BufTy).Contents (Elt Ideal))
    (x24 : (⟨S1, .f32⟩ : BufTy).Contents (Elt Ideal)) :
    HeadReferenceIdeal.Read.val_main_v47 (F := Ideal) (Read.val_main_v193 (F := Ideal) x0 x1 x5 x6 x7 x8 x9 x10 x11 x12) x2 x3 x4 x13 x14 x15 x16 x17 x18 x19 x20 x21 x22 x23 x24
      = Read.val_main_v241 (F := Ideal) x0 x1 x2 x3 x4 x5 x6 x7 x8 x9 x10 x11 x12 x13 x14 x15 x16 x17 x18 x19 x20 x21 x22 x23 x24 := by
  rfl

end Cert.Tail

end
-- ==== Proof.KernelClaim.lean ====
/- From finite layers, the kernel and the reference end with the same scores. -/
module

public import proofs.«01_k».proof.Defs
public import proofs.«01_k».proof.Proof.KernelRegion
public import proofs.«01_k».proof.Proof.KernelReads
public import proofs.«01_k».proof.Proof.Finite
public import proofs.«01_k».proof.Proof.Tail
public import proofs.«01_k».proof.Proof.Gen.ReferenceIdeal.Run

@[expose] public section

noncomputable section

namespace Cert.KernelClaim

open Cert.KernelIdeal Cert.KernelIdeal.Gen Idealize.ShloMosaic Idealize.SL.Sem Cert.Softmax

theorem pay1_head : @k0_pay1 Ideal _ = @HeadIdeal.Gen.k0_pay1 Ideal _ := rfl

theorem pay2_head : @k0_pay2 Ideal _ = @HeadIdeal.Gen.k0_pay2 Ideal _ := rfl

set_option maxRecDepth 8192 in
/-- What the kernel leaves is the reference's last column, read at the kernel's own arguments. -/
theorem value (m : (ℓ : Loc nD τ sig) → Buf (Elt Ideal) ℓ) (c : Dev nD)
    (hids : Readout.InOrder (m ((c.tc : Thread nD τ).loc main_arg2)))
    (h0 : ∀ j, IsReal ((m ((c.tc : Thread nD τ).loc main_arg0)) j))
    (h5 : ∀ j, IsReal ((m ((c.tc : Thread nD τ).loc main_arg5)) j))
    (h6 : ∀ j, IsReal ((m ((c.tc : Thread nD τ).loc main_arg6)) j))
    (h7 : ∀ j, IsReal ((m ((c.tc : Thread nD τ).loc main_arg7)) j))
    (h8 : ∀ j, IsReal ((m ((c.tc : Thread nD τ).loc main_arg8)) j))
    (h9 : ∀ j, IsReal ((m ((c.tc : Thread nD τ).loc main_arg9)) j))
    (h10 : ∀ j, IsReal ((m ((c.tc : Thread nD τ).loc main_arg10)) j))
    (h11 : ∀ j, IsReal ((m ((c.tc : Thread nD τ).loc main_arg11)) j)) :
    Value.reg_main_v131 m c = ReferenceIdeal.Read.val_main_v241 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) (m ((c.tc : Thread nD τ).loc main_arg17))
      (m ((c.tc : Thread nD τ).loc main_arg18)) (m ((c.tc : Thread nD τ).loc main_arg19)) (m ((c.tc : Thread nD τ).loc main_arg20))
      (m ((c.tc : Thread nD τ).loc main_arg21)) (m ((c.tc : Thread nD τ).loc main_arg22)) (m ((c.tc : Thread nD τ).loc main_arg23))
      (m ((c.tc : Thread nD τ).loc main_arg24)) := by
  rw [Region.region, KernelReads.V_main_v124 m c h0 h5 h6 h7 h8 h9 h10 h11, KernelReads.V_main_v125, KernelReads.V_main_v126,
    KernelReads.V_main_v127, KernelReads.V_main_v128, KernelReads.V_main_v129, KernelReads.V_main_v130, V_main_arg3, V_main_arg4,
    V_main_arg13, V_main_arg15, V_main_arg17, V_main_arg19, V_main_arg21, V_main_arg23, pay1_head, pay2_head]
  refine (congrArg (fun x => HeadIdeal.Gen.k0_pay1 x _ _ _ _ _) (Readout.pay2_eq _ _ _ _ hids _ _ _ _ _ _ _)).trans ?_
  refine (Readout.pay1_eq _ _ _ _ _ _ _ _ _ _ _ _ _ _ _ _).trans ?_
  exact Tail.tail_eq _ _ _ _ _ _ _ _ _ _ _ _ _ _ _ _ _ _ _ _ _ _ _ _ _

set_option maxHeartbeats 2000000 in
/-- The claim of the whole kernel: the two programs end with the same scores. -/
theorem claim : Cert.algebraic_KernelIdeal_ReferenceIdeal_pre_layers_finite := by
  intro m g m' g' hpre hargs
  have hv := fun c => (fun (h : _ ∧ _) => value m c h.1 h.2.1 h.2.2.1 h.2.2.2.1 h.2.2.2.2.1 h.2.2.2.2.2.1 h.2.2.2.2.2.2.1
    h.2.2.2.2.2.2.2.1 h.2.2.2.2.2.2.2.2) (Finite.facts_of_pre _ _ _ _ _ _ _ _ _ _ _ _ _ _ _ _ _ _ _ _ _ _ _ _ _ (hpre c))
  refine ⟨_, Value.run m g, (θ_run _ _ _).mono (fun r h c => ?_) (ReferenceIdeal.Value.run m' g')⟩
  refine ⟨(h c).1.trans ?_, (h c).2⟩
  obtain ⟨a0, a1, a2, a3, a4, a5, a6, a7, a8, a9, a10, a11, a12, a13, a14, a15, a16, a17, a18, a19, a20, a21, a22, a23, a24⟩ := hargs c
  refine Eq.trans ?_ (congrArg (fun x => shapeCast _ x shapeCasts_S512x1_S512) (hv c).symm)
  rw [ReferenceIdeal.Read.val_main_v242_eq]
  rw [show StableHlo.launchContents m' c (Proc.devRef .tc ReferenceIdeal.main_arg0) = m ((c.tc : Thread nD τ).loc main_arg0) from a0,
    show StableHlo.launchContents m' c (Proc.devRef .tc ReferenceIdeal.main_arg1) = m ((c.tc : Thread nD τ).loc main_arg1) from a1,
    show StableHlo.launchContents m' c (Proc.devRef .tc ReferenceIdeal.main_arg2) = m ((c.tc : Thread nD τ).loc main_arg2) from a2,
    show StableHlo.launchContents m' c (Proc.devRef .tc ReferenceIdeal.main_arg3) = m ((c.tc : Thread nD τ).loc main_arg3) from a3,
    show StableHlo.launchContents m' c (Proc.devRef .tc ReferenceIdeal.main_arg4) = m ((c.tc : Thread nD τ).loc main_arg4) from a4,
    show StableHlo.launchContents m' c (Proc.devRef .tc ReferenceIdeal.main_arg5) = m ((c.tc : Thread nD τ).loc main_arg5) from a5,
    show StableHlo.launchContents m' c (Proc.devRef .tc ReferenceIdeal.main_arg6) = m ((c.tc : Thread nD τ).loc main_arg6) from a6,
    show StableHlo.launchContents m' c (Proc.devRef .tc ReferenceIdeal.main_arg7) = m ((c.tc : Thread nD τ).loc main_arg7) from a7,
    show StableHlo.launchContents m' c (Proc.devRef .tc ReferenceIdeal.main_arg8) = m ((c.tc : Thread nD τ).loc main_arg8) from a8,
    show StableHlo.launchContents m' c (Proc.devRef .tc ReferenceIdeal.main_arg9) = m ((c.tc : Thread nD τ).loc main_arg9) from a9,
    show StableHlo.launchContents m' c (Proc.devRef .tc ReferenceIdeal.main_arg10) = m ((c.tc : Thread nD τ).loc main_arg10) from a10,
    show StableHlo.launchContents m' c (Proc.devRef .tc ReferenceIdeal.main_arg11) = m ((c.tc : Thread nD τ).loc main_arg11) from a11,
    show StableHlo.launchContents m' c (Proc.devRef .tc ReferenceIdeal.main_arg12) = m ((c.tc : Thread nD τ).loc main_arg12) from a12,
    show StableHlo.launchContents m' c (Proc.devRef .tc ReferenceIdeal.main_arg13) = m ((c.tc : Thread nD τ).loc main_arg13) from a13,
    show StableHlo.launchContents m' c (Proc.devRef .tc ReferenceIdeal.main_arg14) = m ((c.tc : Thread nD τ).loc main_arg14) from a14,
    show StableHlo.launchContents m' c (Proc.devRef .tc ReferenceIdeal.main_arg15) = m ((c.tc : Thread nD τ).loc main_arg15) from a15,
    show StableHlo.launchContents m' c (Proc.devRef .tc ReferenceIdeal.main_arg16) = m ((c.tc : Thread nD τ).loc main_arg16) from a16,
    show StableHlo.launchContents m' c (Proc.devRef .tc ReferenceIdeal.main_arg17) = m ((c.tc : Thread nD τ).loc main_arg17) from a17,
    show StableHlo.launchContents m' c (Proc.devRef .tc ReferenceIdeal.main_arg18) = m ((c.tc : Thread nD τ).loc main_arg18) from a18,
    show StableHlo.launchContents m' c (Proc.devRef .tc ReferenceIdeal.main_arg19) = m ((c.tc : Thread nD τ).loc main_arg19) from a19,
    show StableHlo.launchContents m' c (Proc.devRef .tc ReferenceIdeal.main_arg20) = m ((c.tc : Thread nD τ).loc main_arg20) from a20,
    show StableHlo.launchContents m' c (Proc.devRef .tc ReferenceIdeal.main_arg21) = m ((c.tc : Thread nD τ).loc main_arg21) from a21,
    show StableHlo.launchContents m' c (Proc.devRef .tc ReferenceIdeal.main_arg22) = m ((c.tc : Thread nD τ).loc main_arg22) from a22,
    show StableHlo.launchContents m' c (Proc.devRef .tc ReferenceIdeal.main_arg23) = m ((c.tc : Thread nD τ).loc main_arg23) from a23,
    show StableHlo.launchContents m' c (Proc.devRef .tc ReferenceIdeal.main_arg24) = m ((c.tc : Thread nD τ).loc main_arg24) from a24]
  rfl

end Cert.KernelClaim

end
-- ==== Proof.lean ====
module

public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadReferenceIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_graphs_in_order
public import proofs.«01_k».proof.Proof.Gen.HeadIdeal.Run
public import proofs.«01_k».proof.Proof.Gen.HeadIdeal.Read
public import proofs.«01_k».proof.Proof.Gen.HeadReferenceIdeal.Run
public import proofs.«01_k».proof.Proof.Gen.HeadReferenceIdeal.Read
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.Gen.Pre_layers_finite
public import proofs.«01_k».proof.Proof.HeadClaim
public import proofs.«01_k».proof.Proof.KernelClaim
public import Idealize.ShloMosaic.Adequacy
public import Idealize.ShloMosaic.Init

@[expose] public section

noncomputable section

namespace Cert.Proof

open Idealize.ShloMosaic Idealize.SL.Sem Cert.Head

/-- The frames of the kernel, of its head and of the references, and what the head and the whole kernel compute. -/
theorem claim : Cert.Claim := ⟨Cert.Head.Gen.facts, Cert.HeadIdeal.Gen.facts, Cert.HeadReferenceIdeal.Gen.facts, Cert.Kernel.Gen.facts, Cert.KernelIdeal.Gen.facts, Cert.ReferenceIdeal.Gen.facts, Cert.Pre_graphs_in_order.Gen.facts, Cert.Pre_layers_finite.Gen.facts,
  fun m ρ _ => Cert.Head.Gen.frame m ρ,
  fun m ρ _ => Cert.HeadIdeal.Gen.frame m ρ,
  fun m ρ _ => Cert.HeadIdeal.Gen.frame m ρ,
  fun m ρ _ => (θ_run Cert.HeadReferenceIdeal.defs _ _).mono (fun r h => ⟨fun c => (h c).2, sem_eq_zero_of_no_sems (by decide) r.2⟩) (Cert.HeadReferenceIdeal.Value.run m ρ),
  fun m ρ _ => (θ_run Cert.HeadReferenceIdeal.defs _ _).mono (fun r h => ⟨fun c => (h c).2, sem_eq_zero_of_no_sems (by decide) r.2⟩) (Cert.HeadReferenceIdeal.Value.run m ρ),
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run m ρ),
  fun m ρ _ => (θ_run Cert.ReferenceIdeal.defs _ _).mono (fun r h => ⟨fun c => (h c).2, sem_eq_zero_of_no_sems (by decide) r.2⟩) (Cert.ReferenceIdeal.Value.run m ρ),
  trivial,
  Cert.HeadClaim.claim,
  trivial,
  Cert.KernelClaim.claim⟩

end Cert.Proof

end
